-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "s" .f32 0x3E38AA3B#32 (((1 / 8) * (Real.log 2)⁻¹ : ℝ) : EReal)

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S32x512 : Shape := ⟨2, ![32, 512]⟩
abbrev S32x8192x512 : Shape := ⟨3, ![32, 8192, 512]⟩
abbrev S32x8192 : Shape := ⟨2, ![32, 8192]⟩
abbrev S512x512 : Shape := ⟨2, ![512, 512]⟩
abbrev S512 : Shape := ⟨1, ![512]⟩
abbrev S_ : Shape := ⟨0, ![]⟩

class Facts : Prop where
  bcast_S_S32x512 : S_.BroadcastsInDim S32x512 (![] : Fin 0 → Fin S32x512.rank)
  bcast_S_S32x8192x512 : S_.BroadcastsInDim S32x8192x512 (![] : Fin 0 → Fin S32x8192x512.rank)
  bcast_S_S512x512 : S_.BroadcastsInDim S512x512 (![] : Fin 0 → Fin S512x512.rank)
  bcast_S_S512 : S_.BroadcastsInDim S512 (![] : Fin 0 → Fin S512.rank)

variable [Facts]

def fn_part1 {F : FTy → Type} [FloatOps F] (main_arg2 : IVec S32x8192 1) (main_arg7 : FVec F S512x512 .f32) (main_v2 : IVec S32x512 1) (main_v5 : IVec S32x8192x512 1) (main_v8 : IVec S512x512 1) (main_v11 : IVec S512 1) (main_v14 : IVec S512x512 1) (main_v17 : IVec S512 1) : IVec S32x8192 1 × IVec S32x512 1 × IVec S32x8192x512 1 × IVec S512x512 1 × IVec S512 1 × IVec S512x512 1 × IVec S512 1 × IVec S512x512 1 :=
  let main_v18 : FVec F S512x512 .f32 := Host.absf main_arg7
  let main_cst_5 : FVec F S_ .f32 := constant S_ .f32 0x7F800000#32
  let main_v19 : FVec F S512x512 .f32 := broadcastInDim S512x512 ![] bcast_S_S512x512 main_cst_5
  let main_v20 : IVec S512x512 1 := cmpf .olt main_v18 main_v19
  (main_arg2, main_v2, main_v5, main_v8, main_v11, main_v14, main_v17, main_v20)

def fn {F : FTy → Type} [FloatOps F] (main_arg0 : FVec F S32x512 .f32) (main_arg1 : FVec F S32x8192x512 .f32) (main_arg2 : IVec S32x8192 1) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S32x8192 1 × IVec S32x512 1 × IVec S32x8192x512 1 × IVec S512x512 1 × IVec S512 1 × IVec S512x512 1 × IVec S512 1 × IVec S512x512 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_v3 : FVec F S32x8192x512 .f32 := Host.absf main_arg1
  let main_cst_0 : FVec F S_ .f32 := constant S_ .f32 0x7F800000#32
  let main_v4 : FVec F S32x8192x512 .f32 := broadcastInDim S32x8192x512 ![] bcast_S_S32x8192x512 main_cst_0
  let main_v5 : IVec S32x8192x512 1 := cmpf .olt main_v3 main_v4
  let main_v6 : FVec F S512x512 .f32 := Host.absf main_arg3
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512x512 .f32 := Host.absf main_arg5
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512 .f32 := Host.absf main_arg6
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg2 main_arg7 main_v2 main_v5 main_v8 main_v11 main_v14 main_v17
-- ==== Kernel.lean ====
abbrev S32x512 : Shape := ⟨2, ![32, 512]⟩
abbrev S32x8192x512 : Shape := ⟨3, ![32, 8192, 512]⟩
abbrev S32x8192 : Shape := ⟨2, ![32, 8192]⟩
abbrev S512x512 : Shape := ⟨2, ![512, 512]⟩
abbrev S512 : Shape := ⟨1, ![512]⟩
abbrev S2080x512 : Shape := ⟨2, ![2080, 512]⟩
abbrev S32x8x8192 : Shape := ⟨3, ![32, 8, 8192]⟩
abbrev S1x8192x512 : Shape := ⟨3, ![1, 8192, 512]⟩
abbrev S1x8x8192 : Shape := ⟨3, ![1, 8, 8192]⟩
abbrev S32x8x512 : Shape := ⟨3, ![32, 8, 512]⟩
abbrev S1x512 : Shape := ⟨2, ![1, 512]⟩
abbrev S256x32 : Shape := ⟨2, ![256, 32]⟩
abbrev S256x512 : Shape := ⟨2, ![256, 512]⟩
abbrev S1x8x512 : Shape := ⟨3, ![1, 8, 512]⟩
abbrev S8x512 : Shape := ⟨2, ![8, 512]⟩
abbrev S8192x512 : Shape := ⟨2, ![8192, 512]⟩
abbrev S8x8192 : Shape := ⟨2, ![8, 8192]⟩
abbrev S8 : Shape := ⟨1, ![8]⟩
abbrev S8x1 : Shape := ⟨2, ![8, 1]⟩

abbrev nBuf : Space → Nat
  | .hbm => 14
  | .vmem => 11
  | .smem => 0
  | _ => 0

abbrev bufTy : (tb : Table) → Fin (tcTables nBuf tb) → BufTy
  | .hbm, ⟨0, _⟩ => ⟨S32x512, .f32⟩
  | .hbm, ⟨1, _⟩ => ⟨S32x8192x512, .f32⟩
  | .hbm, ⟨2, _⟩ => ⟨S32x8192, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S2080x512, .f32⟩
  | .hbm, ⟨12, _⟩ => ⟨S32x8x8192, .f32⟩
  | .hbm, ⟨13, _⟩ => ⟨S32x512, .f32⟩
  | .local _ .vmem, ⟨0, _⟩ => ⟨S1x8192x512, .f32⟩
  | .local _ .vmem, ⟨1, _⟩ => ⟨S1x8192x512, .f32⟩
  | .local _ .vmem, ⟨2, _⟩ => ⟨S2080x512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S1x8x8192, .f32⟩
  | .local _ .vmem, ⟨7, _⟩ => ⟨S1x8x8192, .f32⟩
  | .local _ .vmem, ⟨8, _⟩ => ⟨S32x512, .f32⟩
  | .local _ .vmem, ⟨9, _⟩ => ⟨S32x8x512, .f32⟩
  | .local _ .vmem, ⟨10, _⟩ => ⟨S32x8x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
def k0_cond2 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_14 : BitVec 32 := 0#32
  let v33 : BitVec 1 := Scalar.cmpi .ne v32 c0_i32_14
  v33

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2080x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "s" => some (((1 / 8) * (Real.log 2)⁻¹ : ℝ) : EReal)
  | _ => none
-- ==== ReferenceIdeal.lean ====
abbrev S32x512 : Shape := ⟨2, ![32, 512]⟩
abbrev S32x8192x512 : Shape := ⟨3, ![32, 8192, 512]⟩
abbrev S32x8192 : Shape := ⟨2, ![32, 8192]⟩
abbrev S512x512 : Shape := ⟨2, ![512, 512]⟩
abbrev S512 : Shape := ⟨1, ![512]⟩
abbrev S1x512 : Shape := ⟨2, ![1, 512]⟩
abbrev S32x8x64 : Shape := ⟨3, ![32, 8, 64]⟩
abbrev S1x1x512 : Shape := ⟨3, ![1, 1, 512]⟩
abbrev S32x8192x8x64 : Shape := ⟨4, ![32, 8192, 8, 64]⟩
abbrev S32x8x8192 : Shape := ⟨3, ![32, 8, 8192]⟩
abbrev S_ : Shape := ⟨0, ![]⟩
abbrev S32x1x8192 : Shape := ⟨3, ![32, 1, 8192]⟩
abbrev S32x8 : Shape := ⟨2, ![32, 8]⟩
abbrev S32x8x1 : Shape := ⟨3, ![32, 8, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x8192x512, .f32⟩
  | .hbm, ⟨2, _⟩ => ⟨S32x8192, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S32x512, .f32⟩
  | .hbm, ⟨13, _⟩ => ⟨S1x512, .f32⟩
  | .hbm, ⟨14, _⟩ => ⟨S32x512, .f32⟩
  | .hbm, ⟨15, _⟩ => ⟨S32x512, .f32⟩
  | .hbm, ⟨16, _⟩ => ⟨S32x8x64, .f32⟩
  | .hbm, ⟨17, _⟩ => ⟨S512x512, .f32⟩
  | .hbm, ⟨18, _⟩ => ⟨S32x8192x512, .f32⟩
  | .hbm, ⟨19, _⟩ => ⟨S1x1x512, .f32⟩
  | .hbm, ⟨20, _⟩ => ⟨S32x8192x512, .f32⟩
  | .hbm, ⟨21, _⟩ => ⟨S32x8192x512, .f32⟩
  | .hbm, ⟨22, _⟩ => ⟨S32x8192x8x64, .f32⟩
  | .hbm, ⟨23, _⟩ => ⟨S512x512, .f32⟩
  | .hbm, ⟨24, _⟩ => ⟨S32x8192x512, .f32⟩
  | .hbm, ⟨25, _⟩ => ⟨S1x1x512, .f32⟩
  | .hbm, ⟨26, _⟩ => ⟨S32x8192x512, .f32⟩
  | .hbm, ⟨27, _⟩ => ⟨S32x8192x512, .f32⟩
  | .hbm, ⟨28, _⟩ => ⟨S32x8192x8x64, .f32⟩
  | .hbm, ⟨29, _⟩ => ⟨S32x8x8192, .f32⟩
  | .hbm, ⟨30, _⟩ => ⟨S_, .f32⟩
  | .hbm, ⟨31, _⟩ => ⟨S32x8x8192, .f32⟩
  | .hbm, ⟨32, _⟩ => ⟨S32x8x8192, .f32⟩
  | .hbm, ⟨33, _⟩ => ⟨S32x1x8192, .i1⟩
  | .hbm, ⟨34, _⟩ => ⟨S_, .f32⟩
  | .hbm, ⟨35, _⟩ => ⟨S32x8x8192, .i1⟩
  | .hbm, ⟨36, _⟩ => ⟨S32x8x8192, .f32⟩
  | .hbm, ⟨37, _⟩ => ⟨S32x8x8192, .f32⟩
  | .hbm, ⟨38, _⟩ => ⟨S_, .f32⟩
  | .hbm, ⟨39, _⟩ => ⟨S32x8, .f32⟩
  | .hbm, ⟨40, _⟩ => ⟨S_, .f32⟩
  | .hbm, ⟨41, _⟩ => ⟨S32x8, .f32⟩
  | .hbm, ⟨42, _⟩ => ⟨S32x8, .f32⟩
  | .hbm, ⟨43, _⟩ => ⟨S32x8x1, .f32⟩
  | .hbm, ⟨44, _⟩ => ⟨S32x8x8192, .f32⟩
  | .hbm, ⟨45, _⟩ => ⟨S32x8x8192, .f32⟩
  | .hbm, ⟨46, _⟩ => ⟨S32x8x8192, .f32⟩
  | .hbm, ⟨47, _⟩ => ⟨S_, .f32⟩
  | .hbm, ⟨48, _⟩ => ⟨S32x8, .f32⟩
  | .hbm, ⟨49, _⟩ => ⟨S32x8x1, .f32⟩
  | .hbm, ⟨50, _⟩ => ⟨S32x8x8192, .f32⟩
  | .hbm, ⟨51, _⟩ => ⟨S32x8x8192, .f32⟩
  | .hbm, ⟨52, _⟩ => ⟨S32x8x64, .f32⟩
  | .hbm, ⟨53, _⟩ => ⟨S32x512, .f32⟩
  | .hbm, ⟨54, _⟩ => ⟨S512x512, .f32⟩
  | .hbm, ⟨55, _⟩ => ⟨S32x512, .f32⟩
  | .hbm, ⟨56, _⟩ => ⟨S1x512, .f32⟩
  | .hbm, ⟨57, _⟩ => ⟨S32x512, .f32⟩
  | .hbm, ⟨58, _⟩ => ⟨S32x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Run.Points.lean ====
/- The two branch conditions of the kernel's body in closed form, the staging buffers of a grid point, the rows of the two carried
   buffers, and the closed forms of what a point computes from them. -/
module

public import proofs.«01_k».proof.Proof.Gen.KernelIdeal.Frame
public import proofs.«01_k».proof.Proof.Gen.KernelIdeal.Skeleton
public import Idealize.ShloMosaic.Lib.WritesUnit
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body fills its first carried buffer where this holds. -/
abbrev atFirst (i : grid0.Coords) : Prop :=
  (Scalar.cmpi .ne (Scalar.extui (Scalar.cmpi .eq (BitVec.ofNat 32 (i 0).val) 0#32)) 0#32) = 1#1

/-- The grid's one coordinate at point `t` is `t`. -/
theorem coord_val (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  rw [e0, Nat.div_one, Nat.mod_eq_of_lt ht]

/-- That is the first grid point. -/
theorem atFirst_iff (t : Fin cfg0.N) : atFirst (grid0.coords t) ↔ t.val = 0 := by
  have ht : t.val < 32 := Nat.lt_of_lt_of_eq t.isLt N_0
  have key : atFirst (grid0.coords t) ↔ t.val = 0 := by
    simp only [atFirst, coord_val]
    word_cmp
  exact key

/-- The body computes the second result where this holds. -/
abbrev atLast (i : grid0.Coords) : Prop := k0_cond2 i = 1#1

/-- That is the last grid point. -/
theorem atLast_iff (t : Fin cfg0.N) : atLast (grid0.coords t) ↔ t.val = 31 := by
  have ht : t.val < 32 := Nat.lt_of_lt_of_eq t.isLt N_0
  have key : atLast (grid0.coords t) ↔ t.val = 31 := by
    simp only [atLast, k0_cond2, coord_val]
    word_cmp
  exact key

/-- Row `i` of a carried buffer, as the point at `i` loads it. -/
def rowOf (x : Vec F S32x8x512 .f32) (i : grid0.Coords) : Vec F S1x8x512 .f32 :=
  View.ld x (Rect.unit (s := S32x8x512) (k0_off1 i) S1x8x512.size (k0_off1_inb i))

/-- A carried buffer with row `i` replaced. -/
def putRow (x : Vec F S32x8x512 .f32) (i : grid0.Coords) (r : Vec F S1x8x512 .f32) : Vec F S32x8x512 .f32 :=
  fun y => if (y 0).val = (i 0).val then r (ValueIdx.ix3 0 (y 1) (y 2)) else x y

/-- What the first point leaves in the first carried buffer, from the packed operand and the first bias. -/
def firstBuf (x1 : Vec F S2080x512 .f32) (x2 : Vec F S512 .f32) : Vec F S32x8x512 .f32 :=
  k0_pay1
    (k0_pay9 (k0_pay8 (View.ld x1 (Rect.unit (s := S2080x512) ![2048, 0] S32x512.size inb_S2080x512_S32x512_2048_0)) (View.ld x1 (Rect.unit (s := S2080x512) ![0, 0] S512x512.size inb_S2080x512_S512x512_0_0)) x2)
      (iota .tc S256x512 32 [0] iota_S256x512_d0_w32) 8#32 (Scalar.cmpi .eq 8#32 0#32))
    (k0_pay10 (View.ld x1 (Rect.unit (s := S2080x512) ![512, 0] S512x512.size inb_S2080x512_S512x512_512_0)))
    (constant S256x512 .f32 0x00000000#32)

/-- The second result, from the second carried buffer, the packed operand and the two last biases. -/
def lastOut (x1 : Vec F S2080x512 .f32) (x3 x4 : Vec F S512 .f32) (p : Vec F S32x8x512 .f32) : Vec F S32x512 .f32 :=
  k0_pay7 (k0_pay11 p (View.ld x1 (Rect.unit (s := S2080x512) ![1024, 0] S512x512.size inb_S2080x512_S512x512_1024_0)) x3)
    (k0_pay12 (View.ld x1 (Rect.unit (s := S2080x512) ![1536, 0] S512x512.size inb_S2080x512_S512x512_1536_0))) x4

section Reads

variable {sp : Space} {S : Shape} {e : EltTy} {arg : Memref sig .tc sp S e}

/-- A load through a rectangle of a buffer with known contents reads those contents under the rectangle. -/
theorem readAt_unread (h : arg.IsWhole) (X : S.Idx → Elt F e) (r : Rect S) :
    View.readAt (Elt F) arg.view r.toLoadRect (h.unread X) = View.ld X r := by
  conv_rhs => rw [← h.read_unread X]
  rfl

/-- A load of the whole buffer reads its contents. -/
theorem readAt_unread_zero (h : arg.IsWhole) (X : S.Idx → Elt F e) {off : Fin S.rank → ℕ} (h0 : off = fun _ => 0)
    (inb : ∀ a, off a + S.size a ≤ S.size a) :
    View.readAt (Elt F) arg.view (Rect.unit off S.size inb).toLoadRect (h.unread X) = X := by
  rw [readAt_unread, View.ld_unit_zero h0]

/-- A store over the whole buffer leaves the stored value. -/
theorem read_write_zero (f : arg.view.ty.Contents (Elt F)) {off : Fin S.rank → ℕ} (h0 : off = fun _ => 0)
    (inb : ∀ a, off a + S.size a ≤ S.size a) (w : S.Idx → Elt F e) :
    View.read (Elt F) arg.view (arg.view.writes (Elt F) f [⟨Rect.unit off S.size inb, w⟩]) = w := by
  rw [View.read_writes_eq_canon _ _ _ (fun y => ⟨_, List.mem_singleton_self _, View.mem_set_unit_zero h0 inb y⟩),
    View.canon_unit_zero h0]

end Reads

/-- A store of one row of a carried buffer leaves the buffer with that row replaced. -/
theorem read_write_row {sp : Space} {arg : Memref sig .tc sp S32x8x512 .f32} (h : arg.IsWhole) (x : Vec F S32x8x512 .f32) (i : grid0.Coords) (r : Vec F S1x8x512 .f32) :
    View.read (Elt F) arg.view (arg.view.writes (Elt F) (h.unread x) [⟨Rect.unit (s := S32x8x512) (k0_off1 i) S1x8x512.size (k0_off1_inb i), r⟩])
      = putRow x i r := by
  funext y
  unfold putRow
  by_cases hy : (y 0).val = (i 0).val
  · rw [if_pos hy]
    exact View.read_writes_cons_unit_of_mem arg.view (h.unread x) (k0_off1_inb i) r [] y (ValueIdx.ix3 0 (y 1) (y 2)) (k0_off1_eq i)
      (fun a => match a with
        | ⟨0, _⟩ => by show (y 0).val = (i 0).val + 0; omega
        | ⟨1, _⟩ => by show (y 1).val = 0 + (y 1).val; omega
        | ⟨2, _⟩ => by show (y 2).val = 0 + (y 2).val; omega)
  · rw [if_neg hy, View.read_writes_cons_unit_of_not_mem arg.view (h.unread x) (k0_off1_inb i) r [] y (k0_off1_eq i) 0
      (by show (y 0).val < (i 0).val ∨ (i 0).val + 1 ≤ (y 0).val; omega), View.writes_nil, h.read_unread]

/-- The offsets of a whole-buffer access of rank three are zero. -/
theorem zeros3 : (![0, 0, 0] : Fin 3 → ℕ) = fun _ => 0 := by decide
/-- The same at rank two. -/
theorem zeros2 : (![0, 0] : Fin 2 → ℕ) = fun _ => 0 := by decide
/-- The same at rank one. -/
theorem zeros1 : (![0] : Fin 1 → ℕ) = fun _ => 0 := by decide

end Cert.KernelIdeal.Hand

end
-- ==== Proof.Run.Mid.lean ====
/- What the kernel's body does at a grid point that is neither the first nor the last. -/
module

public import proofs.«01_k».proof.Proof.Run.Points
public import Idealize.ShloMosaic.Lib.Exec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Neither first nor last: the body leaves the first result's block computed from its row of the first carried buffer and its
    input block, puts its row into the second carried buffer, and leaves the second result's staging buffer alone. -/
theorem run_mid (c : Dev nD) (i : grid0.Coords) (arg1 : Memref sig .tc .vmem S1x8192x512 .f32) (harg1 : arg1.IsWhole) (arg2 : Memref sig .tc .vmem S2080x512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole) (arg6 : Memref sig .tc .vmem S1x8x8192 .f32) (harg6 : arg6.IsWhole)
    (arg7 : Memref sig .tc .vmem S32x512 .f32) (harg7 : arg7.IsWhole) (arg8 : Memref sig .tc .vmem S32x8x512 .f32) (harg8 : arg8.IsWhole) (arg9 : Memref sig .tc .vmem S32x8x512 .f32) (harg9 : arg9.IsWhole)
    (hc0 : ¬atFirst i) (hc1 : ¬atLast i) (x0 : Vec F S1x8192x512 .f32) (x1 : Vec F S2080x512 .f32) (x2 : Vec F S512 .f32) (x3 : Vec F S512 .f32) (x4 : Vec F S512 .f32) (xs0 xs1 : Vec F S32x8x512 .f32) (x6 : Vec F S32x512 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ owns (c : Thread nD τ) arg7 fullShare (x6) ∗ owns (c : Thread nD τ) arg8 fullShare (xs0) ∗ owns (c : Thread nD τ) arg9 fullShare (xs1)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (k0_pay5 (rowOf xs0 i) x0) ∗ owns (c : Thread nD τ) arg7 fullShare (x6) ∗ owns (c : Thread nD τ) arg8 fullShare (xs0) ∗ owns (c : Thread nD τ) arg9 fullShare (putRow xs1 i (k0_pay6 (rowOf xs0 i) x0))) -∗ K ⟨⟩))
      ⊢ wp frame (wpE (defs₀ (F := F)) Variants.none c none) E (cc0_cross_attention_pool i arg1 harg1 arg2 harg2 arg3 harg3 arg4 harg4 arg5 harg5 arg6 harg6 arg7 harg7 arg8 harg8 arg9 harg9) K := by
  simp only [cc0_cross_attention_pool_eq_skeleton]; unfold cc0_cross_attention_pool_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  obtain rfl := harg8.eq_unread hfs0
  obtain rfl := harg9.eq_unread hfs1
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro
    rw [read_write_zero f5 zeros3, readAt_unread harg8, readAt_unread_zero harg1 x0 zeros3]; rfl
  isplitl [H6]
  · iexists _; isplitr; swap; · iexact H6
    ipureintro
    exact harg7.read_unread _
  isplitl [HS0]
  · iexists _; isplitr; swap; · iexact HS0
    ipureintro
    exact harg8.read_unread _
  iexists _; isplitr; swap; · iexact HS1
  ipureintro
  rw [readAt_unread harg8, readAt_unread_zero harg1 x0 zeros3]; exact read_write_row harg9 xs1 i _

end Cert.KernelIdeal.Hand

end
-- ==== Proof.Run.First.lean ====
/- What the kernel's body does at the first grid point. -/
module

public import proofs.«01_k».proof.Proof.Run.Mid
public import Idealize.ShloMosaic.Lib.Exec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the first point the body fills the first carried buffer from the packed operand and the first bias, and then does what
    every point does. -/
theorem run_first (c : Dev nD) (i : grid0.Coords) (arg1 : Memref sig .tc .vmem S1x8192x512 .f32) (harg1 : arg1.IsWhole) (arg2 : Memref sig .tc .vmem S2080x512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole) (arg6 : Memref sig .tc .vmem S1x8x8192 .f32) (harg6 : arg6.IsWhole)
    (arg7 : Memref sig .tc .vmem S32x512 .f32) (harg7 : arg7.IsWhole) (arg8 : Memref sig .tc .vmem S32x8x512 .f32) (harg8 : arg8.IsWhole) (arg9 : Memref sig .tc .vmem S32x8x512 .f32) (harg9 : arg9.IsWhole)
    (hc0 : atFirst i) (hc1 : ¬atLast i) (x0 : Vec F S1x8192x512 .f32) (x1 : Vec F S2080x512 .f32) (x2 : Vec F S512 .f32) (x3 : Vec F S512 .f32) (x4 : Vec F S512 .f32) (xs1 : Vec F S32x8x512 .f32) (x6 : Vec F S32x512 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ owns (c : Thread nD τ) arg7 fullShare (x6) ∗ (∃ d, owns (c : Thread nD τ) arg8 fullShare d) ∗ owns (c : Thread nD τ) arg9 fullShare (xs1)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (k0_pay5 (rowOf (firstBuf x1 x2) i) x0) ∗ owns (c : Thread nD τ) arg7 fullShare (x6) ∗ owns (c : Thread nD τ) arg8 fullShare (firstBuf x1 x2) ∗ owns (c : Thread nD τ) arg9 fullShare (putRow xs1 i (k0_pay6 (rowOf (firstBuf x1 x2) i) x0))) -∗ K ⟨⟩))
      ⊢ wp frame (wpE (defs₀ (F := F)) Variants.none c none) E (cc0_cross_attention_pool i arg1 harg1 arg2 harg2 arg3 harg3 arg4 harg4 arg5 harg5 arg6 harg6 arg7 harg7 arg8 harg8 arg9 harg9) K := by
  simp only [cc0_cross_attention_pool_eq_skeleton]; unfold cc0_cross_attention_pool_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%fs1, %hfs1, HS1⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  obtain rfl := harg9.eq_unread hfs1
  sl_exec (disch := first | sl_exact hc0 | sl_exact hc1)
  sl_step
  have hbuf : View.read (Elt F) arg8.view (arg8.view.writes (Elt F) arg8.view.junk (run_first.sl.HS0_1 c arg2 harg2 arg3 harg3 x1 x2)) = firstBuf x1 x2 := by
    unfold run_first.sl.HS0_1 run_first.sl.r_1 run_first.sl.r_2 run_first.sl.cst_42
    try unfold run_first.sl.r
    rw [read_write_zero _ zeros3, readAt_unread harg2, readAt_unread harg2, readAt_unread harg2, readAt_unread_zero harg3 x2 zeros1]
    rfl
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro
    rw [read_write_zero f5 zeros3, readAt_unread_zero harg1 x0 zeros3]; unfold run_first.sl.v4; rw [View.readAt_eq_ld, hbuf]; rfl
  isplitl [H6]
  · iexists _; isplitr; swap; · iexact H6
    ipureintro
    exact harg7.read_unread _
  isplitl [HS0]
  · iexists _; isplitr; swap; · iexact HS0
    ipureintro
    exact hbuf
  iexists _; isplitr; swap; · iexact HS1
  ipureintro
  unfold run_first.sl.v4; rw [View.readAt_eq_ld, hbuf, readAt_unread_zero harg1 x0 zeros3]; exact read_write_row harg9 xs1 i _

end Cert.KernelIdeal.Hand

end
-- ==== Proof.Run.Last.lean ====
/- What the kernel's body does at the last grid point. -/
module

public import proofs.«01_k».proof.Proof.Run.First
public import Idealize.ShloMosaic.Lib.Exec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the last point the body does what every point does, and then computes the second result from the whole second carried
    buffer. -/
theorem run_last (c : Dev nD) (i : grid0.Coords) (arg1 : Memref sig .tc .vmem S1x8192x512 .f32) (harg1 : arg1.IsWhole) (arg2 : Memref sig .tc .vmem S2080x512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole) (arg6 : Memref sig .tc .vmem S1x8x8192 .f32) (harg6 : arg6.IsWhole)
    (arg7 : Memref sig .tc .vmem S32x512 .f32) (harg7 : arg7.IsWhole) (arg8 : Memref sig .tc .vmem S32x8x512 .f32) (harg8 : arg8.IsWhole) (arg9 : Memref sig .tc .vmem S32x8x512 .f32) (harg9 : arg9.IsWhole)
    (hc0 : ¬atFirst i) (hc1 : atLast i) (x0 : Vec F S1x8192x512 .f32) (x1 : Vec F S2080x512 .f32) (x2 : Vec F S512 .f32) (x3 : Vec F S512 .f32) (x4 : Vec F S512 .f32) (xs0 xs1 : Vec F S32x8x512 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare d) ∗ (∃ d, owns (c : Thread nD τ) arg7 fullShare d) ∗ owns (c : Thread nD τ) arg8 fullShare (xs0) ∗ owns (c : Thread nD τ) arg9 fullShare (xs1)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (k0_pay5 (rowOf xs0 i) x0) ∗ owns (c : Thread nD τ) arg7 fullShare (lastOut x1 x3 x4 (putRow xs1 i (k0_pay6 (rowOf xs0 i) x0))) ∗ owns (c : Thread nD τ) arg8 fullShare (xs0) ∗ owns (c : Thread nD τ) arg9 fullShare (putRow xs1 i (k0_pay6 (rowOf xs0 i) x0))) -∗ K ⟨⟩))
      ⊢ wp frame (wpE (defs₀ (F := F)) Variants.none c none) E (cc0_cross_attention_pool i arg1 harg1 arg2 harg2 arg3 harg3 arg4 harg4 arg5 harg5 arg6 harg6 arg7 harg7 arg8 harg8 arg9 harg9) K := by
  simp only [cc0_cross_attention_pool_eq_skeleton]; unfold cc0_cross_attention_pool_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg8.eq_unread hfs0
  obtain rfl := harg9.eq_unread hfs1
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro
    rw [read_write_zero f5 zeros3, readAt_unread harg8, readAt_unread_zero harg1 x0 zeros3]; rfl
  isplitl [H6]
  · iexists _; isplitr; swap; · iexact H6
    ipureintro
    rw [read_write_zero f6 zeros2, readAt_unread_zero harg5 x4 zeros1]; unfold run_last.sl.r run_last.sl.r_1 run_last.sl.v34 run_last.sl.HS1_1; rw [readAt_unread harg2, readAt_unread harg2, readAt_unread_zero harg4 x3 zeros1, readAt_unread harg8, readAt_unread_zero harg1 x0 zeros3, View.readAt_eq_ld, View.ld_unit_zero zeros3, read_write_row harg9 xs1 i]; rfl
  isplitl [HS0]
  · iexists _; isplitr; swap; · iexact HS0
    ipureintro
    exact harg8.read_unread _
  iexists _; isplitr; swap; · iexact HS1
  ipureintro
  unfold run_last.sl.HS1_1; rw [readAt_unread harg8, readAt_unread_zero harg1 x0 zeros3]; exact read_write_row harg9 xs1 i _

end Cert.KernelIdeal.Hand

end
-- ==== Proof.Run.Launch.lean ====
/- The kernel's whole run: what the staging buffers and the two carried buffers hold before and after each grid point, the body's
   obligation at every point, and the launch. -/
module

public import proofs.«01_k».proof.Proof.Run.Last

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staging buffer of window 0 at point `t`. -/
abbrev stage0 (t : Fin cfg0.N) : Memref sig .tc .vmem S1x8192x512 .f32 := win0_0.stage (cfg0.slots t 0)
/-- The staging buffer of window 1 at point `t`. -/
abbrev stage1 (t : Fin cfg0.N) : Memref sig .tc .vmem S2080x512 .f32 := win0_1.stage (cfg0.slots t 1)
/-- The staging buffer of window 2 at point `t`. -/
abbrev stage2 (t : Fin cfg0.N) : Memref sig .tc .vmem S512 .f32 := win0_2.stage (cfg0.slots t 2)
/-- The staging buffer of window 3 at point `t`. -/
abbrev stage3 (t : Fin cfg0.N) : Memref sig .tc .vmem S512 .f32 := win0_3.stage (cfg0.slots t 3)
/-- The staging buffer of window 4 at point `t`. -/
abbrev stage4 (t : Fin cfg0.N) : Memref sig .tc .vmem S512 .f32 := win0_4.stage (cfg0.slots t 4)
/-- The staging buffer of window 5 at point `t`. -/
abbrev stage5 (t : Fin cfg0.N) : Memref sig .tc .vmem S1x8x8192 .f32 := win0_5.stage (cfg0.slots t 5)
/-- The staging buffer of window 6 at point `t`. -/
abbrev stage6 (t : Fin cfg0.N) : Memref sig .tc .vmem S32x512 .f32 := win0_6.stage (cfg0.slots t 6)
/-- The first carried buffer, whole. -/
abbrev carryA : Memref sig .tc .vmem S32x8x512 .f32 := Memref.whole cc0_scratch0
/-- The second carried buffer, whole. -/
abbrev carryB : Memref sig .tc .vmem S32x8x512 .f32 := Memref.whole cc0_scratch1

variable (m : (ℓ : Loc nD τ sig) → Buf (Elt F) ℓ) (ρ : Dev nD → PrngReg)

/-- The first grid point. -/
abbrev pt0 : Fin cfg0.N := ⟨0, by rw [show cfg0.N = 32 from N_0]; omega⟩
/-- The grid point of a batch entry. -/
abbrev ptOf (b : Fin 32) : Fin cfg0.N := ⟨b.val, by rw [show cfg0.N = 32 from N_0]; exact b.isLt⟩

/-- What the first carried buffer holds from the first point on. -/
def bufA (c : Dev nD) : Vec F S32x8x512 .f32 := firstBuf (iblk m c 1 pt0) (iblk m c 2 pt0)

/-- What the second carried buffer holds once every point has put its row. -/
def bufB (c : Dev nD) : Vec F S32x8x512 .f32 :=
  fun y => k0_pay6 (rowOf (bufA m c) (grid0.coords (ptOf (y 0)))) (iblk m c 0 (ptOf (y 0))) (ValueIdx.ix3 0 (y 1) (y 2))

/-- The block of the first result that point `t` leaves. -/
def outAt (c : Dev nD) (t : Fin cfg0.N) : Vec F S1x8x8192 .f32 := k0_pay5 (rowOf (bufA m c) (grid0.coords t)) (iblk m c 0 t)

/-- The second result, as the last point computes it. -/
def outLast (c : Dev nD) (t : Fin cfg0.N) : Vec F S32x512 .f32 := lastOut (iblk m c 1 t) (iblk m c 3 t) (iblk m c 4 t) (bufB m c)

/-- The carried buffers before point `n`: at anything before the first; then the first one at its contents and the second one
    with the rows below `n` in place. -/
def carried (c : Dev nD) : (n : ℕ) → sProp 𝕄
  | 0 => Pipeline.ΦA spec0 c
  | n + 1 => iprop(iprop(owns (c : Thread nD τ) carryA fullShare (bufA m c)
      ∗ (∃ d : Vec F S32x8x512 .f32, ⌜∀ y, (y 0).val < n + 1 → d y = bufB m c y⌝ ∗ owns (c : Thread nD τ) carryB fullShare d)) ∗ (∃ r, prngReg c r))

/-- The launch's own form of the invariant, with the carried buffers as whole buffers. -/
theorem carried_zero (c : Dev nD) : carried m c 0
    = iprop(iprop((∃ d, owns (c : Thread nD τ) carryA fullShare d) ∗ (∃ d, owns (c : Thread nD τ) carryB fullShare d)) ∗ (∃ r, prngReg c r)) := by
  unfold carried Pipeline.ΦA; rw [scopedRest0_eq]; simp only [carryA, carryB, owns_whole]; rfl

/-- Putting row `t` extends the rows in place from those below `t` to those below `t + 1`. -/
theorem putRow_agrees (c : Dev nD) (t : Fin cfg0.N) (d : Vec F S32x8x512 .f32) (h : ∀ y, (y 0).val < t.val → d y = bufB m c y)
    (y : S32x8x512.Idx) (hy : (y 0).val < t.val + 1) :
    putRow d (grid0.coords t) (k0_pay6 (rowOf (bufA m c) (grid0.coords t)) (iblk m c 0 t)) y = bufB m c y := by
  unfold putRow
  by_cases e : (y 0).val = (grid0.coords t 0).val
  · rw [if_pos e]
    rw [coord_val] at e
    have et : t = ptOf (y 0) := Fin.ext e.symm
    unfold bufB
    rw [et]
  · rw [if_neg e]
    rw [coord_val] at e
    exact h y (by omega)

/-- The pipeline's data: the arrays as the region finds them; after point `t` every input's buffer at its block, the first
    result's buffer at `outAt`, the second's at `outLast`; the carried buffers between. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => outLast m c t
  Φ t := carried m c t.val
  q _ := fullShare
  owed _ := 0

/-- The data's arrays are those the region finds. -/
theorem A_eq (c : Dev nD) (w : Fin cfg0.W) : (dats m 0 c).A w = V m c (Pipeline.arrRef spec0 w) := by
  dsimp only [dats]

/-- After a grid point the window of keys still holds the block that was read into it. -/
theorem after_0 (c : Dev nD) (t : Fin cfg0.N) : (dats m 0 c).after 0 t = iblk m c 0 t := by dsimp only [dats]
/-- After a grid point the window of the packed weights and queries still holds the block that was read into it. -/
theorem after_1 (c : Dev nD) (t : Fin cfg0.N) : (dats m 0 c).after 1 t = iblk m c 1 t := by dsimp only [dats]
/-- After a grid point the window of the query bias still holds the block that was read into it. -/
theorem after_2 (c : Dev nD) (t : Fin cfg0.N) : (dats m 0 c).after 2 t = iblk m c 2 t := by dsimp only [dats]
/-- After a grid point the window of the value bias still holds the block that was read into it. -/
theorem after_3 (c : Dev nD) (t : Fin cfg0.N) : (dats m 0 c).after 3 t = iblk m c 3 t := by dsimp only [dats]
/-- After a grid point the window of the output bias still holds the block that was read into it. -/
theorem after_4 (c : Dev nD) (t : Fin cfg0.N) : (dats m 0 c).after 4 t = iblk m c 4 t := by dsimp only [dats]
/-- After a grid point the window of the attention weights holds that point's weights. -/
theorem after_5 (c : Dev nD) (t : Fin cfg0.N) : (dats m 0 c).after 5 t = outAt m c t := by dsimp only [dats]
/-- After a grid point the window of the pooled result is described by the projection of all rows; it counts at the last point alone. -/
theorem after_6 (c : Dev nD) (t : Fin cfg0.N) : (dats m 0 c).after 6 t = outLast m c t := by dsimp only [dats]
/-- Before a grid point the window of keys holds its block of the argument. -/
theorem before_0 (c : Dev nD) (t : Fin cfg0.N) (d) : (dats m 0 c).before 0 t d = iblk m c 0 t :=
  before0_0_of m (dats m 0 c) (A_eq m c 0) (after_0 m c) t d
/-- Before a grid point the window of the packed weights and queries holds its block of the argument. -/
theorem before_1 (c : Dev nD) (t : Fin cfg0.N) (d) : (dats m 0 c).before 1 t d = iblk m c 1 t :=
  before0_1_of m (dats m 0 c) (A_eq m c 1) (after_1 m c) t d
/-- Before a grid point the window of the query bias holds its block of the argument. -/
theorem before_2 (c : Dev nD) (t : Fin cfg0.N) (d) : (dats m 0 c).before 2 t d = iblk m c 2 t :=
  before0_2_of m (dats m 0 c) (A_eq m c 2) (after_2 m c) t d
/-- Before a grid point the window of the value bias holds its block of the argument. -/
theorem before_3 (c : Dev nD) (t : Fin cfg0.N) (d) : (dats m 0 c).before 3 t d = iblk m c 3 t :=
  before0_3_of m (dats m 0 c) (A_eq m c 3) (after_3 m c) t d
/-- Before a grid point the window of the output bias holds its block of the argument. -/
theorem before_4 (c : Dev nD) (t : Fin cfg0.N) (d) : (dats m 0 c).before 4 t d = iblk m c 4 t :=
  before0_4_of m (dats m 0 c) (A_eq m c 4) (after_4 m c) t d

/-- The second result's window is idle at every point but the last. -/
theorem idle_6 (t : Fin cfg0.N) (h : ¬atLast (grid0.coords t)) : cfg0.idle 6 (grid0.coords t) = true := by
  show (!(k0_cond2 (grid0.coords t) == 1#1)) = true
  simpa using h

/-- At the last point it is not. -/
theorem live_6 (t : Fin cfg0.N) (h : atLast (grid0.coords t)) : cfg0.idle 6 (grid0.coords t) = false := by
  show (!(k0_cond2 (grid0.coords t) == 1#1)) = false
  simpa using h

/-- Before the last point the second result is not written back. -/
theorem noFlush_6 (t : Fin cfg0.N) (h : ¬atLast (grid0.coords t)) : (cfg0.win 6).flush t = false := by
  have ht : t.val < 32 := Nat.lt_of_lt_of_eq t.isLt N_0
  rw [← Bool.not_eq_true, flush0_6]
  rw [atLast_iff] at h
  omega

/-- What the body is called with at point `t`. -/
def bodyPre (c : Dev nD) (t : Fin cfg0.N) : sProp 𝕄 :=
  iprop(carried m c t.val ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d)))

/-- What it returns. -/
def bodyPost (c : Dev nD) (t : Fin cfg0.N) : sProp 𝕄 :=
  iprop(carried m c (t.val + 1) ∗ (dats m 0 c).owesAt () t.castSucc
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ (dats m 0 c).leavesExact 6 t)

/-- The body's step at the first point. -/
theorem body_first (c : Dev nD) (t : Fin cfg0.N) (h0 : t.val = 0) :
    bodyPre m c t ⊢ wp frame (wpE (defs₀ (F := F)) Variants.none c none) Set.univ (bodyAt0 t) (fun _ => bodyPost m c t) := by
  obtain rfl : t = pt0 := Fin.ext h0
  have hF : atFirst (grid0.coords pt0) := (atFirst_iff _).mpr h0
  have hL : ¬atLast (grid0.coords pt0) := fun h => by have := (atLast_iff _).mp h; omega
  unfold bodyPre bodyPost bodyAt0
  simp only [before_0, before_1, before_2, before_3, before_4, after_0, after_1, after_2, after_3, after_4, after_5]
  rw [Dat.leavesExact_idle (dats m 0 c) 6 pt0 (idle_6 pt0 hL) (noFlush_6 pt0 hL), carried_zero, carried]
  iintro ⟨⟨⟨HS0, ⟨%d, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords pt0) _ (hstage0_0 ((cfg0.slots pt0 0).cast nbuf0_0)) _ (hstage0_1 ((cfg0.slots pt0 1).cast nbuf0_1)) _ (hstage0_2 ((cfg0.slots pt0 2).cast nbuf0_2)) _ (hstage0_3 ((cfg0.slots pt0 3).cast nbuf0_3)) _ (hstage0_4 ((cfg0.slots pt0 4).cast nbuf0_4)) _ (hstage0_5 ((cfg0.slots pt0 5).cast nbuf0_5)) _ (hstage0_6 ((cfg0.slots pt0 6).cast nbuf0_6)) _ (Memref.isWhole_whole _) _ (Memref.isWhole_whole _) hF hL (iblk m c 0 pt0) (iblk m c 1 pt0) (iblk m c 2 pt0) (iblk m c 3 pt0) (iblk m c 4 pt0) d ((dats m 0 c).before 6 pt0 d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; isplitr; swap; · iexact HS1
      ipureintro
      exact putRow_agrees m c pt0 d (fun y hy => absurd hy (Nat.not_lt_zero _))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body's step at a point that is neither the first nor the last. -/
theorem body_mid (c : Dev nD) (t : Fin cfg0.N) (h0 : t.val ≠ 0) (h1 : t.val ≠ 31) :
    bodyPre m c t ⊢ wp frame (wpE (defs₀ (F := F)) Variants.none c none) Set.univ (bodyAt0 t) (fun _ => bodyPost m c t) := by
  have hF : ¬atFirst (grid0.coords t) := fun h => h0 ((atFirst_iff t).mp h)
  have hL : ¬atLast (grid0.coords t) := fun h => h1 ((atLast_iff t).mp h)
  obtain ⟨n, hn⟩ : ∃ n, t.val = n + 1 := ⟨t.val - 1, by omega⟩
  unfold bodyPre bodyPost bodyAt0
  simp only [before_0, before_1, before_2, before_3, before_4, after_0, after_1, after_2, after_3, after_4, after_5]
  rw [Dat.leavesExact_idle (dats m 0 c) 6 t (idle_6 t hL) (noFlush_6 t hL), hn, carried, carried]
  iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run_mid c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (Memref.isWhole_whole _) _ (Memref.isWhole_whole _) hF hL (iblk m c 0 t) (iblk m c 1 t) (iblk m c 2 t) (iblk m c 3 t) (iblk m c 4 t) (bufA m c) d ((dats m 0 c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; isplitr; swap; · iexact HS1
      ipureintro
      exact hn ▸ putRow_agrees m c t d (hn ▸ hd)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body's step at the last point. -/
theorem body_last (c : Dev nD) (t : Fin cfg0.N) (h1 : t.val = 31) :
    bodyPre m c t ⊢ wp frame (wpE (defs₀ (F := F)) Variants.none c none) Set.univ (bodyAt0 t) (fun _ => bodyPost m c t) := by
  have hF : ¬atFirst (grid0.coords t) := fun h => by have := (atFirst_iff t).mp h; omega
  have hL : atLast (grid0.coords t) := (atLast_iff t).mpr h1
  obtain ⟨n, hn⟩ : ∃ n, t.val = n + 1 := ⟨t.val - 1, by omega⟩
  unfold bodyPre bodyPost bodyAt0
  simp only [before_0, before_1, before_2, before_3, before_4, after_0, after_1, after_2, after_3, after_4, after_5]
  rw [show (dats m 0 c).leavesExact 6 t = owns (c : Thread nD τ) (stage6 t) fullShare ((dats m 0 c).after 6 t) from by
    unfold Dat.leavesExact; rw [live_6 t hL], after_6, hn, carried, carried]
  iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run_last c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (Memref.isWhole_whole _) _ (Memref.isWhole_whole _) hF hL (iblk m c 0 t) (iblk m c 1 t) (iblk m c 2 t) (iblk m c 3 t) (iblk m c 4 t) (bufA m c) d Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; isplitr; swap; · iexact HS1
      ipureintro
      exact hn ▸ putRow_agrees m c t d (hn ▸ hd)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  have hB : putRow d (grid0.coords t) (k0_pay6 (rowOf (bufA m c) (grid0.coords t)) (iblk m c 0 t)) = bufB m c :=
    funext fun y => putRow_agrees m c t d (hn ▸ hd) y (by
      have h2 : (y 0).val < 32 := (y 0).isLt
      omega)
  rw [hB]
  iexact H6

/-- The body's step at any point. -/
theorem body_step (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  · by_cases h1 : t.val = 31
    · exact body_last m c t h1
    · exact body_mid m c t h0 h1

/-- The row of the body table that a point calls is the body at that point. -/
theorem table_row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, table_row]
  exact triple_restated (body_step m c t) rfl .rfl fun _ => .rfl

/-- What the launch hands over is the invariant before the first point. -/
theorem enter (c : Dev nD) : Pipeline.ΦA spec0 c ⊢ (dats m 0 c).Φ 0 := by
  rw [show (dats m 0 c).Φ 0 = Pipeline.ΦA spec0 c from rfl]

/-- After the last point the invariant gives back what the launch handed over. -/
theorem leave (c : Dev nD) : (dats m 0 c).Φ (Fin.last cfg0.N) ⊢ Pipeline.ΦA spec0 c := by
  rw [show (dats m 0 c).Φ (Fin.last cfg0.N) = carried m c (31 + 1) from rfl, ← show carried m c 0 = Pipeline.ΦA spec0 c from rfl, carried_zero, carried]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- The launch: every weakly fair execution ends, every window's array at its contents after the last point, every other
    array as the region found it, and every semaphore counter at zero. -/
theorem launch : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

end Cert.KernelIdeal.Hand

end
-- ==== Proof.Run.Result.lean ====
/- The kernel's run read: its arguments end unchanged and every counter ends at zero; the first result ends with the block each
   point left, the second with what the last point computed; and the blocks the points read, as parts of the arguments. -/
module

public import proofs.«01_k».proof.Proof.Run.Launch
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block index of the first window at point `t`. -/
theorem at_0 : ∀ t : Fin cfg0.N, win0_0.index t = ![t.val, 0, 0] := by decide +kernel
/-- The block index of the second window at point `t`. -/
theorem at_1 : ∀ t : Fin cfg0.N, win0_1.index t = ![0, 0] := by decide +kernel
/-- The block index of the third window at point `t`. -/
theorem at_2 : ∀ t : Fin cfg0.N, win0_2.index t = ![0] := by decide +kernel
/-- The block index of the fourth window at point `t`. -/
theorem at_3 : ∀ t : Fin cfg0.N, win0_3.index t = ![0] := by decide +kernel
/-- The block index of the fifth window at point `t`. -/
theorem at_4 : ∀ t : Fin cfg0.N, win0_4.index t = ![0] := by decide +kernel
/-- The block index of the first result's window at point `t`. -/
theorem at_5 : ∀ t : Fin cfg0.N, win0_5.index t = ![t.val, 0, 0] := by decide +kernel
/-- The block index of the second result's window at point `t`. -/
theorem at_6 : ∀ t : Fin cfg0.N, win0_6.index t = ![0, 0] := by decide +kernel

/-- The batch entry of a grid point. -/
abbrev rowIx (t : Fin cfg0.N) : Fin 32 := ⟨t.val, Nat.lt_of_lt_of_eq t.isLt N_0⟩

/-- The first window's block at point `t` is row `t` of the keys. -/
theorem iblk_0 (c : Dev nD) (t : Fin cfg0.N) (y : S1x8192x512.Idx) :
    iblk m c 0 t y = m ((c : Thread nD τ).loc main_arg1) (ValueIdx.ix3 (rowIx t) (y 1) (y 2)) := by
  show V m c main_arg1 _ = _
  rw [V_main_arg1]
  congr 1
  funext a
  have h0 : (y 0).val < 1 := (y 0).isLt
  match a with
  | ⟨0, _⟩ => exact Fin.ext (by
      show win0_0.index t 0 * 1 + 1 * (y 0).val = t.val
      rw [at_0]; show t.val * 1 + _ = _; omega)
  | ⟨1, _⟩ => exact Fin.ext (by
      show win0_0.index t 1 * 8192 + 1 * (y 1).val = (y 1).val
      rw [at_0]; show 0 * 8192 + _ = _; omega)
  | ⟨2, _⟩ => exact Fin.ext (by
      show win0_0.index t 2 * 512 + 1 * (y 2).val = (y 2).val
      rw [at_0]; show 0 * 512 + _ = _; omega)

/-- The second window's block is the whole packed array. -/
theorem iblk_1 (c : Dev nD) (t : Fin cfg0.N) : iblk m c 1 t = (V m c main_v0 : Vec F S2080x512 .f32) := by
  funext y
  show V m c main_v0 _ = _
  congr 1
  funext a
  match a with
  | ⟨0, _⟩ => exact Fin.ext (by
      show win0_1.index t 0 * 2080 + 1 * (y 0).val = (y 0).val
      rw [at_1]; show 0 * 2080 + _ = _; omega)
  | ⟨1, _⟩ => exact Fin.ext (by
      show win0_1.index t 1 * 512 + 1 * (y 1).val = (y 1).val
      rw [at_1]; show 0 * 512 + _ = _; omega)

/-- The third window's block is the whole array behind it. -/
theorem iblk_2 (c : Dev nD) (t : Fin cfg0.N) : iblk m c 2 t = (m ((c : Thread nD τ).loc main_arg4) : Vec F S512 .f32) := by
  funext y
  show V m c main_arg4 _ = _
  rw [V_main_arg4]
  congr 1
  funext a
  match a with
  | ⟨0, _⟩ => exact Fin.ext (by
      show win0_2.index t 0 * 512 + 1 * (y 0).val = (y 0).val
      rw [at_2]; show 0 * 512 + _ = _; omega)

/-- The fourth window's block is the whole array behind it. -/
theorem iblk_3 (c : Dev nD) (t : Fin cfg0.N) : iblk m c 3 t = (m ((c : Thread nD τ).loc main_arg8) : Vec F S512 .f32) := by
  funext y
  show V m c main_arg8 _ = _
  rw [V_main_arg8]
  congr 1
  funext a
  match a with
  | ⟨0, _⟩ => exact Fin.ext (by
      show win0_3.index t 0 * 512 + 1 * (y 0).val = (y 0).val
      rw [at_3]; show 0 * 512 + _ = _; omega)

/-- The fifth window's block is the whole array behind it. -/
theorem iblk_4 (c : Dev nD) (t : Fin cfg0.N) : iblk m c 4 t = (m ((c : Thread nD τ).loc main_arg10) : Vec F S512 .f32) := by
  funext y
  show V m c main_arg10 _ = _
  rw [V_main_arg10]
  congr 1
  funext a
  match a with
  | ⟨0, _⟩ => exact Fin.ext (by
      show win0_4.index t 0 * 512 + 1 * (y 0).val = (y 0).val
      rw [at_4]; show 0 * 512 + _ = _; omega)

/-- The packed array holds the four weight matrices and the first argument, one above the other. -/
theorem packed_eq (c : Dev nD) : (V m c main_v0 : Vec F S2080x512 .f32)
    = concatenate S2080x512 0 [⟨S512x512, (m ((c : Thread nD τ).loc main_arg3) : Vec F S512x512 .f32)⟩,
        ⟨S512x512, (m ((c : Thread nD τ).loc main_arg5) : Vec F S512x512 .f32)⟩,
        ⟨S512x512, (m ((c : Thread nD τ).loc main_arg7) : Vec F S512x512 .f32)⟩,
        ⟨S512x512, (m ((c : Thread nD τ).loc main_arg9) : Vec F S512x512 .f32)⟩,
        ⟨S32x512, (m ((c : Thread nD τ).loc main_arg0) : Vec F S32x512 .f32)⟩] concatenates_S512x512_S512x512_S512x512_S512x512_S32x512_S2080x512_d0 := by
  unfold V hostOps0; after_results_simp <;> rfl

/-- The first result, whole: at entry `b` the block that point `b` left. -/
def attnArr (c : Dev nD) : Vec F S32x8x8192 .f32 := fun y => outAt m c (ptOf (y 0)) (ValueIdx.ix3 0 (y 1) (y 2))

/-- What a point writes back of the first result is its block of the whole. -/
theorem flushed_5 (c : Dev nD) (t : Fin cfg0.N) :
    (dats m 0 c).flushed 5 t = ((cfg0.win 5).blk t).view.read (Elt F) (attnArr m c) := by
  show (cfg0.win 5).cut (grid0.coords t) ((dats m 0 c).after 5 t) = _
  rw [after_5]
  funext y
  show outAt m c t _ = attnArr m c _
  unfold attnArr
  have h0 : (y 0).val < 1 := (y 0).isLt
  have e0 : ∀ q : S32x8x8192.Idx, (q 0).val = t.val → ptOf (q 0) = t := fun q h => Fin.ext h
  rw [e0 _ (by
    show win0_5.index t 0 * 1 + 1 * (y 0).val = t.val
    rw [at_5]; show t.val * 1 + _ = _; omega)]
  congr 1
  funext a
  match a with
  | ⟨0, _⟩ => exact Fin.ext (by show (y 0).val = 0; omega)
  | ⟨1, _⟩ => exact Fin.ext (by
      show (y 1).val = win0_5.index t 1 * 8 + 1 * (y 1).val
      rw [at_5]; show _ = 0 * 8 + _; omega)
  | ⟨2, _⟩ => exact Fin.ext (by
      show (y 2).val = win0_5.index t 2 * 8192 + 1 * (y 2).val
      rw [at_5]; show _ = 0 * 8192 + _; omega)

/-- The first result ends at the points' blocks. -/
theorem final_5 (c : Dev nD) : (dats m 0 c).arrAt 5 cfg0.N = attnArr m c :=
  (dats m 0 c).arrAt_eq_of_cover 5 (attnArr m c) (fun t _ => flushed_5 m c t) fun i =>
    ⟨ptOf (i 0), flush0_5 _, by
      show i ∈ ((View.whole main_v1_0).slice (win0_5.rect (ptOf (i 0)))).set
      rw [View.set_slice_whole, Rect.mem_set_unit]
      intro a
      have h1 : (i 1 : Nat) < 8 := (i 1).isLt
      have h2 : (i 2 : Nat) < 8192 := (i 2).isLt
      match a with
      | ⟨0, _⟩ => show win0_5.index (ptOf (i 0)) 0 * 1 ≤ (i 0 : Nat) ∧ (i 0 : Nat) < win0_5.index (ptOf (i 0)) 0 * 1 + 1
                  rw [at_5]; show (i 0 : Nat) * 1 ≤ _ ∧ _ < (i 0 : Nat) * 1 + 1; omega
      | ⟨1, _⟩ => show win0_5.index (ptOf (i 0)) 1 * 8 ≤ (i 1 : Nat) ∧ (i 1 : Nat) < win0_5.index (ptOf (i 0)) 1 * 8 + 8
                  rw [at_5]; show 0 * 8 ≤ _ ∧ _ < 0 * 8 + 8; omega
      | ⟨2, _⟩ => show win0_5.index (ptOf (i 0)) 2 * 8192 ≤ (i 2 : Nat) ∧ (i 2 : Nat) < win0_5.index (ptOf (i 0)) 2 * 8192 + 8192
                  rw [at_5]; show 0 * 8192 ≤ _ ∧ _ < 0 * 8192 + 8192; omega⟩

/-- The last grid point. -/
abbrev ptEnd : Fin cfg0.N := ptOf 31

/-- What the last point writes back of the second result is that result, whole. -/
theorem flushed_6 (c : Dev nD) (t : Fin cfg0.N) (hf : (cfg0.win 6).flush t = true) :
    (dats m 0 c).flushed 6 t = ((cfg0.win 6).blk t).view.read (Elt F) (outLast m c ptEnd) := by
  have h3 : t = ptEnd := Fin.ext (by
    have ht : t.val < 32 := Nat.lt_of_lt_of_eq t.isLt N_0
    have := (flush0_6 t).mp hf
    show t.val = 31
    omega)
  subst h3
  show (cfg0.win 6).cut (grid0.coords ptEnd) ((dats m 0 c).after 6 ptEnd) = _
  rw [after_6]
  funext y
  show outLast m c ptEnd _ = outLast m c ptEnd _
  congr 1
  funext a
  match a with
  | ⟨0, _⟩ => exact Fin.ext (by
      show (y 0).val = win0_6.index ptEnd 0 * 32 + 1 * (y 0).val
      rw [at_6]; show _ = 0 * 32 + _; omega)
  | ⟨1, _⟩ => exact Fin.ext (by
      show (y 1).val = win0_6.index ptEnd 1 * 512 + 1 * (y 1).val
      rw [at_6]; show _ = 0 * 512 + _; omega)

/-- The second result ends at what the last point computed. -/
theorem final_6 (c : Dev nD) : (dats m 0 c).arrAt 6 cfg0.N = outLast m c ptEnd :=
  (dats m 0 c).arrAt_eq_of_cover 6 (outLast m c ptEnd) (flushed_6 m c) fun i =>
    ⟨ptEnd, (flush0_6 _).mpr rfl, by
      show i ∈ ((View.whole main_v1_1).slice (win0_6.rect ptEnd)).set
      rw [View.set_slice_whole, Rect.mem_set_unit]
      intro a
      have h0 : (i 0 : Nat) < 32 := (i 0).isLt
      have h1 : (i 1 : Nat) < 512 := (i 1).isLt
      match a with
      | ⟨0, _⟩ => show win0_6.index ptEnd 0 * 32 ≤ (i 0 : Nat) ∧ (i 0 : Nat) < win0_6.index ptEnd 0 * 32 + 32
                  rw [at_6]; show 0 * 32 ≤ _ ∧ _ < 0 * 32 + 32; omega
      | ⟨1, _⟩ => show win0_6.index ptEnd 1 * 512 ≤ (i 1 : Nat) ∧ (i 1 : Nat) < win0_6.index ptEnd 1 * 512 + 512
                  rw [at_6]; show 0 * 512 ≤ _ ∧ _ < 0 * 512 + 512; omega⟩

/-- Every run ends, faults nowhere, leaves the arguments as they were and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  θ_run_and (frame_of m ρ (dats m) (A_eq m) ((θ_run defs _ _).mono (fun _ h => h.1) (launch m ρ)))
    ((θ_run defs _ _).mono (fun _ h => h.2) (launch m ρ))

/-- Every run ends with the two results at `outLast` and `attnArr`, and the arguments as they were. -/
theorem run_all : θ_run defs (onTc (τ := τ) (main (F := F))) ⟨m, fun _ => 0, ρ⟩ (fun r => ∀ c : Dev nD,
      r.2.mem ((c.tc : Thread nD τ).loc main_v1_1) = outLast m c ptEnd
      ∧ r.2.mem ((c.tc : Thread nD τ).loc main_v1_0) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.2.1 c).1 6).trans (final_6 m c), ((h.2.1 c).1 5).trans (final_5 m c), h.1.1 c⟩)
    (θ_run_and (frame_all m ρ) (launch m ρ))

end Cert.KernelIdeal.Hand

end
-- ==== Proof.Run.Words.lean ====
/- The kernel at the machine's words. It is the ideal kernel with every named constant read as its word, so the run of the ideal kernel,
   which is proved at every reading of the floats, is the kernel's run too. -/
module

public import proofs.«01_k».proof.Defs
public import proofs.«01_k».proof.Proof.Gen.Kernel
public import proofs.«01_k».proof.Proof.Run.Result

@[expose] public section

set_option maxRecDepth 16384

noncomputable section

namespace Cert.Kernel.Hand

open Idealize.ShloMosaic Idealize.ShloMosaic.TcCoe Idealize.SL.Sem

/-- A named constant read at the machine's words: its word, whatever the name. -/
@[reducible] def asWord : Named Bits where
  named _ _ {φ} w := Scalar.ofBits φ w

/-- The ideal kernel's body, with names read as words, is the kernel's. -/
theorem body_eq : @KernelIdeal.cc0_cross_attention_pool Bits _ asWord _ = Kernel.cc0_cross_attention_pool (F := Bits) := by
  unfold KernelIdeal.cc0_cross_attention_pool Kernel.cc0_cross_attention_pool
  rfl

/-- The ideal kernel's table of bodies, with names read as words, is the kernel's. -/
theorem bodies_eq : @KernelIdeal.defs₀ Bits _ asWord _ = Kernel.defs₀ (F := Bits) := by
  unfold KernelIdeal.defs₀ Kernel.defs₀
  rw [body_eq]
  refine congrArg Defs.onTc (funext fun l => funext fun a => ?_)
  match l, a with
  | 0, (t, s) => rfl
  | ⟨_ + 1, h⟩, _ => exact absurd h (Nat.not_lt.2 (Nat.le_add_left _ _))

/-- The ideal kernel's procedures, with names read as words, are the kernel's. -/
theorem defs_eq : @KernelIdeal.defs Bits _ asWord _ = Kernel.defs (F := Bits) := by
  unfold KernelIdeal.defs Kernel.defs
  rw [bodies_eq]
  rfl

/-- The two main programs, at the machine's words, are one. -/
theorem main_eq : KernelIdeal.main (F := Bits) = Kernel.main (F := Bits) := rfl

/-- Every run of the kernel ends, faults nowhere, leaves the arguments as they were and every counter at zero. -/
theorem frame_all : Cert.quiescent_Kernel := fun m g _ => by
  have h := @KernelIdeal.Hand.frame_all Bits _ asWord m g
  rw [defs_eq, main_eq] at h
  exact h

end Cert.Kernel.Hand

end
-- ==== Proof.Value.Packed.lean ====
/- The packed operand's parts: the four weights and the first argument, each read back from its rows. -/
module

public import proofs.«01_k».proof.Proof.Run.Result
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- The packed operand: four weights, then the first argument, under one another. -/
def packed (Wq Wk Wv Wo : Vec Ideal S512x512 .f32) (r : Vec Ideal S32x512 .f32) : Vec Ideal S2080x512 .f32 :=
  concatenate S2080x512 0 [⟨S512x512, Wq⟩, ⟨S512x512, Wk⟩, ⟨S512x512, Wv⟩, ⟨S512x512, Wo⟩, ⟨S32x512, r⟩]
    concatenates_S512x512_S512x512_S512x512_S512x512_S32x512_S2080x512_d0

/-- The rows from 0 are the query weight. -/
theorem part_Wq (Wq Wk Wv Wo : Vec Ideal S512x512 .f32) (r : Vec Ideal S32x512 .f32) :
    View.ld (packed Wq Wk Wv Wo r) (Rect.unit (s := S2080x512) ![0, 0] S512x512.size inb_S2080x512_S512x512_0_0) = Wq := by
  funext y
  have hy : (y 0).val < 512 := (y 0).isLt
  refine (View.ld_unit_apply_of (Val := Elt Ideal) (e := .f32) (packed Wq Wk Wv Wo r) ![0, 0] S512x512.size inb_S2080x512_S512x512_0_0 y
    (ix2 (⟨0 + (y 0).val, by omega⟩ : Fin 2080) (y 1)) (fun a => match a with
      | ⟨0, _⟩ => rfl
      | ⟨1, _⟩ => (Nat.zero_add _).symm)).trans ?_
  unfold packed
  exact concatenate_apply_piece (t := S2080x512) 0 [⟨S512x512, Wq⟩, ⟨S512x512, Wk⟩, ⟨S512x512, Wv⟩, ⟨S512x512, Wo⟩, ⟨S32x512, r⟩]
    concatenates_S512x512_S512x512_S512x512_S512x512_S32x512_S2080x512_d0 _ 0 (show 0 < 5 by decide) S512x512 Wq rfl rfl 0 rfl y
    (fun b => match b with
      | ⟨0, _⟩ => fun h => absurd rfl h
      | ⟨1, _⟩ => fun _ => rfl) rfl

/-- The rows from 512 are the key weight. -/
theorem part_Wk (Wq Wk Wv Wo : Vec Ideal S512x512 .f32) (r : Vec Ideal S32x512 .f32) :
    View.ld (packed Wq Wk Wv Wo r) (Rect.unit (s := S2080x512) ![512, 0] S512x512.size inb_S2080x512_S512x512_512_0) = Wk := by
  funext y
  have hy : (y 0).val < 512 := (y 0).isLt
  refine (View.ld_unit_apply_of (Val := Elt Ideal) (e := .f32) (packed Wq Wk Wv Wo r) ![512, 0] S512x512.size inb_S2080x512_S512x512_512_0 y
    (ix2 (⟨512 + (y 0).val, by omega⟩ : Fin 2080) (y 1)) (fun a => match a with
      | ⟨0, _⟩ => rfl
      | ⟨1, _⟩ => (Nat.zero_add _).symm)).trans ?_
  unfold packed
  exact concatenate_apply_piece (t := S2080x512) 0 [⟨S512x512, Wq⟩, ⟨S512x512, Wk⟩, ⟨S512x512, Wv⟩, ⟨S512x512, Wo⟩, ⟨S32x512, r⟩]
    concatenates_S512x512_S512x512_S512x512_S512x512_S32x512_S2080x512_d0 _ 1 (show 1 < 5 by decide) S512x512 Wk rfl rfl 512 rfl y
    (fun b => match b with
      | ⟨0, _⟩ => fun h => absurd rfl h
      | ⟨1, _⟩ => fun _ => rfl) rfl

/-- The rows from 1024 are the value weight. -/
theorem part_Wv (Wq Wk Wv Wo : Vec Ideal S512x512 .f32) (r : Vec Ideal S32x512 .f32) :
    View.ld (packed Wq Wk Wv Wo r) (Rect.unit (s := S2080x512) ![1024, 0] S512x512.size inb_S2080x512_S512x512_1024_0) = Wv := by
  funext y
  have hy : (y 0).val < 512 := (y 0).isLt
  refine (View.ld_unit_apply_of (Val := Elt Ideal) (e := .f32) (packed Wq Wk Wv Wo r) ![1024, 0] S512x512.size inb_S2080x512_S512x512_1024_0 y
    (ix2 (⟨1024 + (y 0).val, by omega⟩ : Fin 2080) (y 1)) (fun a => match a with
      | ⟨0, _⟩ => rfl
      | ⟨1, _⟩ => (Nat.zero_add _).symm)).trans ?_
  unfold packed
  exact concatenate_apply_piece (t := S2080x512) 0 [⟨S512x512, Wq⟩, ⟨S512x512, Wk⟩, ⟨S512x512, Wv⟩, ⟨S512x512, Wo⟩, ⟨S32x512, r⟩]
    concatenates_S512x512_S512x512_S512x512_S512x512_S32x512_S2080x512_d0 _ 2 (show 2 < 5 by decide) S512x512 Wv rfl rfl 1024 rfl y
    (fun b => match b with
      | ⟨0, _⟩ => fun h => absurd rfl h
      | ⟨1, _⟩ => fun _ => rfl) rfl

/-- The rows from 1536 are the output weight. -/
theorem part_Wo (Wq Wk Wv Wo : Vec Ideal S512x512 .f32) (r : Vec Ideal S32x512 .f32) :
    View.ld (packed Wq Wk Wv Wo r) (Rect.unit (s := S2080x512) ![1536, 0] S512x512.size inb_S2080x512_S512x512_1536_0) = Wo := by
  funext y
  have hy : (y 0).val < 512 := (y 0).isLt
  refine (View.ld_unit_apply_of (Val := Elt Ideal) (e := .f32) (packed Wq Wk Wv Wo r) ![1536, 0] S512x512.size inb_S2080x512_S512x512_1536_0 y
    (ix2 (⟨1536 + (y 0).val, by omega⟩ : Fin 2080) (y 1)) (fun a => match a with
      | ⟨0, _⟩ => rfl
      | ⟨1, _⟩ => (Nat.zero_add _).symm)).trans ?_
  unfold packed
  exact concatenate_apply_piece (t := S2080x512) 0 [⟨S512x512, Wq⟩, ⟨S512x512, Wk⟩, ⟨S512x512, Wv⟩, ⟨S512x512, Wo⟩, ⟨S32x512, r⟩]
    concatenates_S512x512_S512x512_S512x512_S512x512_S32x512_S2080x512_d0 _ 3 (show 3 < 5 by decide) S512x512 Wo rfl rfl 1536 rfl y
    (fun b => match b with
      | ⟨0, _⟩ => fun h => absurd rfl h
      | ⟨1, _⟩ => fun _ => rfl) rfl

/-- The rows from 2048 are the first argument. -/
theorem part_r (Wq Wk Wv Wo : Vec Ideal S512x512 .f32) (r : Vec Ideal S32x512 .f32) :
    View.ld (packed Wq Wk Wv Wo r) (Rect.unit (s := S2080x512) ![2048, 0] S32x512.size inb_S2080x512_S32x512_2048_0) = r := by
  funext y
  have hy : (y 0).val < 32 := (y 0).isLt
  refine (View.ld_unit_apply_of (Val := Elt Ideal) (e := .f32) (packed Wq Wk Wv Wo r) ![2048, 0] S32x512.size inb_S2080x512_S32x512_2048_0 y
    (ix2 (⟨2048 + (y 0).val, by omega⟩ : Fin 2080) (y 1)) (fun a => match a with
      | ⟨0, _⟩ => rfl
      | ⟨1, _⟩ => (Nat.zero_add _).symm)).trans ?_
  unfold packed
  exact concatenate_apply_piece (t := S2080x512) 0 [⟨S512x512, Wq⟩, ⟨S512x512, Wk⟩, ⟨S512x512, Wv⟩, ⟨S512x512, Wo⟩, ⟨S32x512, r⟩]
    concatenates_S512x512_S512x512_S512x512_S512x512_S32x512_S2080x512_d0 _ 4 (show 4 < 5 by decide) S32x512 r rfl rfl 2048 rfl y
    (fun b => match b with
      | ⟨0, _⟩ => fun h => absurd rfl h
      | ⟨1, _⟩ => fun _ => rfl) rfl

end Cert.KernelIdeal.Hand

end
-- ==== Proof.Value.Words.lean ====
/- The kernel's integer masks and its constants as plain values: which row belongs to which batch entry, which lane to which head. -/
module

public import proofs.«01_k».proof.Proof.Run.Points
public import Idealize.ShloMosaic.Lib.MatmulPlain
public import Idealize.ShloMosaic.Lib.Pipeline.Value
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- The word a rounding-down division of two words computes, as the kernel spells it: the truncated quotient, one less where
    the signs differ and the remainder is not zero. -/
def floorDiv (n d : BitVec 32) : BitVec 32 :=
  Scalar.select (IntOp.andi
      (IntOp.cmpi .ne (IntOp.subi ((IntOp.cmpi .sgt n 0#32).setWidth 32) ((IntOp.cmpi .slt n 0#32).setWidth 32))
        (Scalar.subi (Scalar.extui (Scalar.cmpi .sgt d 0#32)) (Scalar.extui (Scalar.cmpi .slt d 0#32))))
      (IntOp.cmpi .ne (IntOp.remsi .vector n d) 0#32))
    (IntOp.subi (IntOp.divsi .vector n d) 1#32) (IntOp.divsi .vector n d)

/-- The word a rounding-down remainder of two words computes, as the kernel spells it. -/
def floorMod (n d : BitVec 32) : BitVec 32 :=
  Scalar.select (IntOp.andi
      (IntOp.xori (IntOp.cmpi .slt (IntOp.remsi .vector n d) 0#32) (Scalar.cmpi .slt d 0#32))
      (IntOp.cmpi .ne (IntOp.remsi .vector n d) 0#32))
    (IntOp.addi (IntOp.remsi .vector n d) d) (IntOp.remsi .vector n d)

/-- Below 512, dividing by 64 gives the head of a lane. -/
theorem floorDiv_64 : ∀ n : Fin 512, floorDiv (BitVec.ofNat 32 n.val) 64#32 = BitVec.ofNat 32 (n.val / 64) := by decide +kernel

/-- Below 256, dividing by 8 gives the batch entry of a row. -/
theorem floorDiv_8 : ∀ n : Fin 256, floorDiv (BitVec.ofNat 32 n.val) 8#32 = BitVec.ofNat 32 (n.val / 8) := by decide +kernel

/-- Below 256, the remainder by 8 gives the head of a row. -/
theorem floorMod_8 : ∀ n : Fin 256,
    floorMod (BitVec.ofNat 32 n.val) (Scalar.select (Scalar.cmpi .eq 8#32 0#32) 1#32 8#32) = BitVec.ofNat 32 (n.val % 8) := by decide +kernel

/-- A choice on the equality of two small words is a choice on the equality of the numbers. -/
theorem select_words {α : Type} (x y : ℕ) (hx : x < 512) (hy : y < 512) (a b : α) :
    Scalar.select (IntOp.cmpi .eq (BitVec.ofNat 32 x) (BitVec.ofNat 32 y)) a b = if x = y then a else b := by
  have e : (BitVec.ofNat 32 x = BitVec.ofNat 32 y) ↔ x = y := by
    constructor
    · intro h
      have := congrArg BitVec.toNat h
      simp only [BitVec.toNat_ofNat] at this
      omega
    · rintro rfl; rfl
  unfold Scalar.select IntOp.cmpi
  by_cases h : x = y
  · subst h; simp
  · have h' : ¬ BitVec.ofNat 32 x = BitVec.ofNat 32 y := fun q => h (e.mp q)
    have hb : (BitVec.ofNat 32 x == BitVec.ofNat 32 y) = false := beq_false_of_ne h'
    simp [h, hb]

/-- The word of zero. -/
theorem word_zero : (FloatOps.ofBits .f32 0x00000000#32 : Ideal .f32) = (0 : EReal) := by
  show Ideal.ofBits .f32 0x00000000#32 = 0
  simp [Ideal.ofBits, Ideal.ieee, -EReal.coe_mul]
/-- The word of one. -/
theorem word_one : (FloatOps.ofBits .f32 0x3F800000#32 : Ideal .f32) = (1 : EReal) := by
  show Ideal.ofBits .f32 0x3F800000#32 = 1
  simp [Ideal.ofBits, Ideal.ieee, -EReal.coe_mul]; norm_num
/-- The word of eight. -/
theorem word_eight : (FloatOps.ofBits .f32 0x41000000#32 : Ideal .f32) = ((8 : ℝ) : EReal) := by
  show Ideal.ofBits .f32 0x41000000#32 = _
  simp [Ideal.ofBits, Ideal.ieee, -EReal.coe_mul]; norm_num
/-- The word of minus infinity. -/
theorem word_bot : (FloatOps.ofBits .f32 0xFF800000#32 : Ideal .f32) = (⊥ : EReal) := by
  show Ideal.ofBits .f32 0xFF800000#32 = _
  simp [Ideal.ofBits, Ideal.ieee, -EReal.coe_mul]
/-- The word of plus infinity. -/
theorem word_top : (FloatOps.ofBits .f32 0x7F800000#32 : Ideal .f32) = (⊤ : EReal) := by
  show Ideal.ofBits .f32 0x7F800000#32 = _
  simp [Ideal.ofBits, Ideal.ieee, -EReal.coe_mul]

end Cert.KernelIdeal.Hand

end
-- ==== Proof.Value.Row.lean ====
/- What one grid point computes, read at an index: the row's scores, their exponentials off the row's maximum, the softmax weights and the
   pooled keys. -/
module

public import proofs.«01_k».proof.Proof.Value.Words

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- A row's score of a head at a position. -/
def score (a : Vec Ideal S1x8x512 .f32) (k : Vec Ideal S1x8192x512 .f32) (h : Fin 8) (i : Fin 8192) : EReal :=
  ∑ j : Fin 512, a (ix3 (0 : Fin 1) h j) * k (ix3 (0 : Fin 1) i j)

/-- The largest score of a head. -/
def top (a : Vec Ideal S1x8x512 .f32) (k : Vec Ideal S1x8192x512 .f32) (h : Fin 8) : EReal :=
  (Finset.univ : Finset (Fin 8192)).fold max ⊥ fun i => score a k h i

/-- The exponential, to base two, of a score off the largest. -/
def expo (a : Vec Ideal S1x8x512 .f32) (k : Vec Ideal S1x8192x512 .f32) (h : Fin 8) (i : Fin 8192) : EReal :=
  Ideal.exp2 (score a k h i - top a k h)

/-- One over the sum of a head's exponentials. -/
def recip (a : Vec Ideal S1x8x512 .f32) (k : Vec Ideal S1x8192x512 .f32) (h : Fin 8) : EReal :=
  Ideal.div 1 (∑ i : Fin 8192, expo a k h i)

/-- The keys' block without its leading axis. -/
theorem pay2_apply (k : Vec Ideal S1x8192x512 .f32) (i : Fin 8192) (j : Fin 512) : k0_pay2 k (ix2 i j) = k (ix3 (0 : Fin 1) i j) := by
  unfold k0_pay2
  exact shapeCast_apply k shapeCasts_S1x8192x512_S8192x512 (ix2 i j) (ix3 (0 : Fin 1) i j) (by
    rw [Shape.rowMajor_val_two, Shape.rowMajor_val_three]
    show (0 * 8192 + i.val) * 512 + j.val = i.val * 512 + j.val
    omega)

/-- A column of eight put over a matrix's columns reads its row. -/
theorem columns_apply {n : ℕ} (hb : S8x1.Broadcasts ⟨2, ![8, n]⟩) (hn : 8 ≤ 8) (v : FVec Ideal S8x1 .f32) (h : Fin 8) (i : Fin n) :
    broadcastTo ⟨2, ![8, n]⟩ v hb (ix2 h i) = v (ix2 h (0 : Fin 1)) :=
  broadcastTo_apply v hb (ix2 h i) (ix2 h (0 : Fin 1)) (by
    intro a
    match a with
    | ⟨0, _⟩ => rfl
    | ⟨1, _⟩ => rfl)

/-- Eight values stood up as a column. -/
theorem stand_apply (v : FVec Ideal S8 .f32) (h : Fin 8) : shapeCast S8x1 v shapeCasts_S8_S8x1 (ix2 h (0 : Fin 1)) = v (ix1 h) :=
  shapeCast_apply v shapeCasts_S8_S8x1 (ix2 h (0 : Fin 1)) (ix1 h) (by
    rw [Shape.rowMajor_val_two, Shape.rowMajor_val_one]
    show h.val = h.val * 1 + 0
    omega)

/-- A head's index with a position put back. -/
theorem lift_row (h : Fin 8) (i : Fin 8192) : (reduces_S8x8192_S8).lift (ix1 h) i = ix2 h i := by
  funext c
  match c with
  | ⟨0, _⟩ => rfl
  | ⟨1, _⟩ => rfl

/-- The scores, as the kernel's product computes them. -/
theorem scores_apply (a : Vec Ideal S1x8x512 .f32) (k : Vec Ideal S1x8192x512 .f32) (h : Fin 8) (i : Fin 8192) :
    (matmul (φ₁ := .f32) (φ₂ := .f32) dot_S8x512_S8192x512_S8x8192_1_1_0_0_n_n none (shapeCast (α := Ideal .f32) S8x512 a shapeCasts_S1x8x512_S8x512) (k0_pay2 k)
      (constant S8x8192 .f32 0x00000000#32) : FVec Ideal S8x8192 .f32) (ix2 h i) = score a k h i := by
  refine ((Ideal.matmul_transposedRhs_apply none _ _ _ h i).trans (congrArg (fun x : EReal => x + _) word_zero)).trans ?_
  rw [zero_add]
  refine Finset.sum_congr rfl fun j _ => congrArg₂ (fun x y : EReal => x * y) ?_ (pay2_apply k i j)
  exact shapeCast_apply a shapeCasts_S1x8x512_S8x512 (ix2 h j) (ix3 (0 : Fin 1) h j) (by
    rw [Shape.rowMajor_val_two, Shape.rowMajor_val_three]
    show (0 * 8 + h.val) * 512 + j.val = h.val * 512 + j.val
    omega)

/-- The exponentials, as the kernel computes them. -/
theorem pay3_apply (a : Vec Ideal S1x8x512 .f32) (k : Vec Ideal S1x8192x512 .f32) (h : Fin 8) (i : Fin 8192) :
    k0_pay3 a k (ix2 h i) = expo a k h i := by
  unfold k0_pay3
  refine congrArg Ideal.exp2 (congrArg₂ (fun x y : EReal => x - y) (scores_apply a k h i) ?_)
  refine (columns_apply broadcasts_S8x1_S8x8192 (le_refl 8) _ h i).trans ((stand_apply _ h).trans ?_)
  refine (Ideal.multiReduction_maximumf_single _ _ reduces_S8x8192_S8 _ _ (ix1 h)).trans ?_
  rw [word_bot]
  refine congrArg (fun f : Fin 8192 → EReal => (Finset.univ : Finset (Fin 8192)).fold max ⊥ f) (funext fun q => ?_)
  exact (congrArg _ (lift_row h q)).trans (scores_apply a k h q)

/-- One over the sums, as the kernel computes them. -/
theorem pay4_apply (a : Vec Ideal S1x8x512 .f32) (k : Vec Ideal S1x8192x512 .f32) (h : Fin 8) :
    k0_pay4 a k (ix2 h (0 : Fin 1)) = recip a k h := by
  unfold k0_pay4
  refine congrArg₂ Ideal.div word_one ((stand_apply _ h).trans ?_)
  refine (Ideal.multiReduction_add_single _ _ reduces_S8x8192_S8 _ _ (ix1 h)).trans ?_
  refine Finset.sum_congr rfl fun q _ => ?_
  exact (congrArg _ (lift_row h q)).trans (pay3_apply a k h q)

/-- The softmax weights, as the kernel computes them. -/
theorem pay5_apply (a : Vec Ideal S1x8x512 .f32) (k : Vec Ideal S1x8192x512 .f32) (h : Fin 8) (i : Fin 8192) :
    k0_pay5 a k (ix3 (0 : Fin 1) h i) = expo a k h i * recip a k h := by
  unfold k0_pay5
  refine (shapeCast_apply _ shapeCasts_S8x8192_S1x8x8192 (ix3 (0 : Fin 1) h i) (ix2 h i) (by
    rw [Shape.rowMajor_val_two, Shape.rowMajor_val_three]
    show h.val * 8192 + i.val = (0 * 8 + h.val) * 8192 + i.val
    omega)).trans ?_
  exact congrArg₂ (fun x y : EReal => x * y) (pay3_apply a k h i)
    ((columns_apply broadcasts_S8x1_S8x8192 (le_refl 8) _ h i).trans (pay4_apply a k h))

/-- The pooled keys, as the kernel computes them. -/
theorem pay6_apply (a : Vec Ideal S1x8x512 .f32) (k : Vec Ideal S1x8192x512 .f32) (h : Fin 8) (j : Fin 512) :
    k0_pay6 a k (ix3 (0 : Fin 1) h j) = (∑ i : Fin 8192, expo a k h i * k (ix3 (0 : Fin 1) i j)) * recip a k h := by
  unfold k0_pay6
  rw [shapeCast_self]
  refine (shapeCast_apply _ shapeCasts_S8x512_S1x8x512 (ix3 (0 : Fin 1) h j) (ix2 h j) (by
    rw [Shape.rowMajor_val_two, Shape.rowMajor_val_three]
    show h.val * 512 + j.val = (0 * 8 + h.val) * 512 + j.val
    omega)).trans ?_
  refine congrArg₂ (fun x y : EReal => x * y) ?_
    ((columns_apply broadcasts_S8x1_S8x512 (le_refl 8) _ h j).trans (pay4_apply a k h))
  refine ((Ideal.matmul_plain_apply none _ _ _ h j).trans (congrArg (fun x : EReal => x + _) word_zero)).trans ?_
  rw [zero_add]
  exact Finset.sum_congr rfl fun i _ => congrArg₂ (fun x y : EReal => x * y) (pay3_apply a k h i) (pay2_apply k i j)

end Cert.KernelIdeal.Hand

end
-- ==== Proof.Value.First.lean ====
/- What the first carried buffer holds, read at an index: per batch entry and head, the projected query's lanes of that head times the
   key weights, scaled. -/
module

public import proofs.«01_k».proof.Proof.Value.Words

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- The first argument's row `n` projected: times the weight's row `d`, plus the bias. -/
def rowProj (r : Vec Ideal S32x512 .f32) (W : Vec Ideal S512x512 .f32) (b : Vec Ideal S512 .f32) (n : Fin 32) (d : Fin 512) : EReal :=
  (∑ k : Fin 512, r (ix2 n k) * W (ix2 d k)) + b (ix1 d)

/-- A bias of 512 lanes put under 32 rows reads its lane. -/
theorem biasRows_apply (b : Vec Ideal S512 .f32) (n : Fin 32) (d : Fin 512) :
    broadcastTo S32x512 (shapeCast S1x512 b shapeCasts_S512_S1x512) broadcasts_S1x512_S32x512 (ix2 n d) = b (ix1 d) := by
  rw [broadcastTo_apply _ broadcasts_S1x512_S32x512 (ix2 n d) (ix2 (0 : Fin 1) d) (by
    intro a
    match a with
    | ⟨0, _⟩ => rfl
    | ⟨1, _⟩ => rfl)]
  exact shapeCast_apply b shapeCasts_S512_S1x512 (ix2 (0 : Fin 1) d) (ix1 d) (by
    rw [Shape.rowMajor_val_two, Shape.rowMajor_val_one]
    show d.val = 0 * 512 + d.val
    omega)

/-- A product with a weight's rows plus a bias, over 32 rows, is `rowProj`. -/
theorem rowProj_eq (r : Vec Ideal S32x512 .f32) (W : Vec Ideal S512x512 .f32) (b : Vec Ideal S512 .f32) (n : Fin 32) (d : Fin 512) :
    (addf (matmul (φ₁ := .f32) (φ₂ := .f32) dot_S32x512_S512x512_S32x512_1_1_0_0_n_n none r W (constant S32x512 .f32 0x00000000#32))
      (broadcastTo S32x512 (shapeCast S1x512 b shapeCasts_S512_S1x512) broadcasts_S1x512_S32x512) : FVec Ideal S32x512 .f32) (ix2 n d)
    = rowProj r W b n d := by
  refine (congrArg₂ (fun x y : EReal => x + y) ((Ideal.matmul_transposedRhs_apply none r W _ n d).trans
    (congrArg (fun x : EReal => x + _) word_zero)) (biasRows_apply b n d)).trans ?_
  show (0 + ∑ k : Fin 512, r (ix2 n k) * W (ix2 d k) : EReal) + b (ix1 d) = _
  rw [zero_add]
  rfl

/-- A sum over batch entries that keeps one of them. -/
theorem sum_pick (f : Fin 32 → EReal) (n : ℕ) (hn : n < 32) :
    (∑ k : Fin 32, (if n = k.val then (1 : EReal) else 0) * f k) = f ⟨n, hn⟩ := by
  rw [Finset.sum_eq_single (⟨n, hn⟩ : Fin 32)]
  · rw [if_pos rfl, one_mul]
  · intro k _ hk
    rw [if_neg (fun h => hk (Fin.ext h.symm)), zero_mul]
  · intro h; exact absurd (Finset.mem_univ _) h

/-- The projected queries, one row per batch entry and head. -/
theorem pay8_apply (r : Vec Ideal S32x512 .f32) (W : Vec Ideal S512x512 .f32) (b : Vec Ideal S512 .f32) (n : Fin 256) (d : Fin 512) :
    k0_pay8 r W b (ix2 n d) = rowProj r W b ⟨n.val / 8, by omega⟩ d := by
  unfold k0_pay8
  rw [shapeCast_self, shapeCast_self]
  refine (Ideal.matmul_plain_apply none _ _ _ n d).trans ?_
  refine (congrArg₂ (fun x y : EReal => x + y) word_zero (Finset.sum_congr rfl fun k _ => congrArg₂ (fun x y : EReal => x * y)
    (?_ : _ = if n.val / 8 = k.val then (1 : EReal) else 0) (rowProj_eq r W b k d))).trans ?_
  · show Scalar.select (IntOp.cmpi .eq (floorDiv (iota .tc S256x32 32 [0] iota_S256x32_d0_w32 (ix2 n k)) 8#32)
      (iota .tc S256x32 32 [1] iota_S256x32_d1_w32 (ix2 n k))) (FloatOps.ofBits .f32 0x3F800000#32 : Ideal .f32) (FloatOps.ofBits .f32 0x00000000#32 : Ideal .f32) = _
    rw [iota_single_apply, iota_single_apply]
    show Scalar.select (IntOp.cmpi .eq (floorDiv (BitVec.ofNat 32 n.val) 8#32) (BitVec.ofNat 32 k.val)) _ _ = _
    have hn := n.isLt
    have hk := k.isLt
    rw [floorDiv_8, select_words _ _ (by omega) (by omega), word_one, word_zero]
  · rw [zero_add]
    exact sum_pick (fun k => rowProj r W b k d) _ _

/-- Of a row's lanes, those of its head are kept. -/
theorem pay9_apply (v : FVec Ideal S256x512 .f32) (n : Fin 256) (d : Fin 512) :
    k0_pay9 v (iota .tc S256x512 32 [0] iota_S256x512_d0_w32) 8#32 (Scalar.cmpi .eq 8#32 0#32) (ix2 n d)
    = if d.val / 64 = n.val % 8 then v (ix2 n d) else (0 : EReal) := by
  unfold k0_pay9
  show Scalar.select (IntOp.cmpi .eq (floorDiv (iota .tc S256x512 32 [1] iota_S256x512_d1_w32 (ix2 n d)) 64#32)
      (floorMod (iota .tc S256x512 32 [0] iota_S256x512_d0_w32 (ix2 n d)) (Scalar.select (Scalar.cmpi .eq 8#32 0#32) 1#32 8#32)))
      (v (ix2 n d)) (FloatOps.ofBits .f32 0x00000000#32 : Ideal .f32) = _
  rw [iota_single_apply, iota_single_apply]
  show Scalar.select (IntOp.cmpi .eq (floorDiv (BitVec.ofNat 32 d.val) 64#32)
      (floorMod (BitVec.ofNat 32 n.val) (Scalar.select (Scalar.cmpi .eq 8#32 0#32) 1#32 8#32))) _ _ = _
  have hn := n.isLt
  have hd := d.isLt
  rw [floorDiv_64, floorMod_8, select_words _ _ (by omega) (by omega), word_zero]

/-- The scale the kernel multiplies its scores by. -/
def scaleWord : EReal := (((1 / 8) * (Real.log 2)⁻¹ : ℝ) : EReal)

/-- The masked queries times the key weights, scaled, one row per batch entry and head. -/
theorem pay1_apply (v : FVec Ideal S256x512 .f32) (W : FVec Ideal S512x512 .f32) (b : Fin 32) (h : Fin 8) (j : Fin 512) :
    k0_pay1 v W (constant S256x512 .f32 0x00000000#32) (ix3 b h j)
    = (∑ d : Fin 512, v (ix2 (⟨b.val * 8 + h.val, by omega⟩ : Fin 256) d) * W (ix2 d j)) * scaleWord := by
  unfold k0_pay1
  rw [shapeCast_self]
  refine (shapeCast_apply _ shapeCasts_S256x512_S32x8x512 (ix3 b h j) (ix2 (⟨b.val * 8 + h.val, by omega⟩ : Fin 256) j) (by
    rw [Shape.rowMajor_val_two, Shape.rowMajor_val_three]; rfl)).trans ?_
  refine (congrArg₂ (fun x y : EReal => x * y) ((Ideal.matmul_plain_apply none v W _ _ j).trans
    (congrArg (fun x : EReal => x + _) word_zero)) (IdealRules.named_const.ideal_named_scalar _ _ _ _ rfl)).trans ?_
  rw [zero_add]
  rfl

/-- The first carried buffer at an index, from the parts of the packed array. -/
theorem firstBuf_apply (x1 : Vec Ideal S2080x512 .f32) (x2 : Vec Ideal S512 .f32) (r : Vec Ideal S32x512 .f32) (Wq Wk : Vec Ideal S512x512 .f32)
    (hr : View.ld x1 (Rect.unit (s := S2080x512) ![2048, 0] S32x512.size inb_S2080x512_S32x512_2048_0) = r)
    (hq : View.ld x1 (Rect.unit (s := S2080x512) ![0, 0] S512x512.size inb_S2080x512_S512x512_0_0) = Wq)
    (hk : View.ld x1 (Rect.unit (s := S2080x512) ![512, 0] S512x512.size inb_S2080x512_S512x512_512_0) = Wk)
    (b : Fin 32) (h : Fin 8) (j : Fin 512) :
    firstBuf x1 x2 (ix3 b h j)
    = (∑ d : Fin 512, (if d.val / 64 = h.val then rowProj r Wq x2 b d else 0) * Wk (ix2 d j)) * scaleWord := by
  unfold firstBuf
  rw [hr, hq, hk, pay1_apply]
  refine congrArg (fun x : EReal => x * scaleWord) (Finset.sum_congr rfl fun d _ => ?_)
  rw [pay9_apply, pay8_apply]
  have e1 : (b.val * 8 + h.val) % 8 = h.val := by omega
  have e2 : (b.val * 8 + h.val) / 8 = b.val := by omega
  unfold k0_pay10
  rw [shapeCast_self]
  simp only [e1, e2]

end Cert.KernelIdeal.Hand

end
-- ==== Proof.Value.Last.lean ====
/- What the last grid point computes, read at an index: the pooled keys through the value weights, a lane from its own head, plus the bias,
   then through the output weights. -/
module

public import proofs.«01_k».proof.Proof.Value.First

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- The pooled values of a batch entry at a lane: the pooled keys of the lane's head times the value weights, plus the bias. -/
def pooledLane (p : Vec Ideal S32x8x512 .f32) (Wv : Vec Ideal S512x512 .f32) (bv : Vec Ideal S512 .f32) (b : Fin 32) (d : Fin 512) : EReal :=
  (∑ j : Fin 512, p (ix3 b (⟨d.val / 64, by omega⟩ : Fin 8) j) * Wv (ix2 d j)) + bv (ix1 d)

/-- A sum over heads that keeps one of them. -/
theorem sum_head (f : Fin 8 → EReal) (n : ℕ) (hn : n < 8) : (∑ h : Fin 8, if n = h.val then f h else 0) = f ⟨n, hn⟩ := by
  rw [Finset.sum_eq_single (⟨n, hn⟩ : Fin 8)]
  · rw [if_pos rfl]
  · intro h _ hh
    rw [if_neg (fun e => hh (Fin.ext e.symm))]
  · intro h; exact absurd (Finset.mem_univ _) h

/-- A batch entry's lane with a head put back. -/
theorem lift_head (b : Fin 32) (d : Fin 512) (h : Fin 8) : (reduces_S32x8x512_S32x512).lift (ix2 b d) h = ix3 b h d := by
  funext c
  match c with
  | ⟨0, _⟩ => rfl
  | ⟨1, _⟩ => rfl
  | ⟨2, _⟩ => rfl

/-- The pooled values, as the kernel computes them. -/
theorem pay11_apply (p : Vec Ideal S32x8x512 .f32) (Wv : Vec Ideal S512x512 .f32) (bv : Vec Ideal S512 .f32) (b : Fin 32) (d : Fin 512) :
    k0_pay11 p Wv bv (ix2 b d) = pooledLane p Wv bv b d := by
  unfold k0_pay11
  rw [shapeCast_self]
  refine congrArg₂ (fun x y : EReal => x + y) ?_ (biasRows_apply bv b d)
  refine (Ideal.multiReduction_add_single _ _ reduces_S32x8x512_S32x512 _ _ (ix2 b d)).trans ?_
  have hd := d.isLt
  refine (Finset.sum_congr rfl fun (h : Fin 8) _ => (?_ : _ = if d.val / 64 = h.val then
    (∑ j : Fin 512, p (ix3 b h j) * Wv (ix2 d j) : EReal) else 0)).trans ?_
  · refine (congrArg _ (lift_head b d h)).trans ?_
    show Scalar.select (IntOp.cmpi .eq (floorDiv (iota .tc S32x8x512 32 [2] iota_S32x8x512_d2_w32 (ix3 b h d)) 64#32)
        (iota .tc S32x8x512 32 [1] iota_S32x8x512_d1_w32 (ix3 b h d)))
        (shapeCast S32x8x512 (matmul (φ₁ := .f32) (φ₂ := .f32) dot_S256x512_S512x512_S256x512_1_1_0_0_n_n none (shapeCast (α := Ideal .f32) S256x512 p shapeCasts_S32x8x512_S256x512) Wv
          (constant S256x512 .f32 0x00000000#32)) shapeCasts_S256x512_S32x8x512 (ix3 b h d)) (FloatOps.ofBits .f32 0x00000000#32 : Ideal .f32) = _
    rw [iota_single_apply, iota_single_apply]
    show Scalar.select (IntOp.cmpi .eq (floorDiv (BitVec.ofNat 32 d.val) 64#32) (BitVec.ofNat 32 h.val)) _ _ = _
    have hh := h.isLt
    rw [floorDiv_64, select_words _ _ (by omega) (by omega), word_zero]
    refine congrArg (fun x : EReal => if d.val / 64 = h.val then x else 0) ?_
    refine (shapeCast_apply _ shapeCasts_S256x512_S32x8x512 (ix3 b h d) (ix2 (⟨b.val * 8 + h.val, by omega⟩ : Fin 256) d) (by
      rw [Shape.rowMajor_val_two, Shape.rowMajor_val_three]; rfl)).trans ?_
    refine ((Ideal.matmul_transposedRhs_apply none _ _ _ _ d).trans (congrArg (fun x : EReal => x + _) word_zero)).trans ?_
    rw [zero_add]
    refine Finset.sum_congr rfl fun j _ => congrArg (fun x : EReal => x * Wv (ix2 d j)) ?_
    exact shapeCast_apply p shapeCasts_S32x8x512_S256x512 (ix2 (⟨b.val * 8 + h.val, by omega⟩ : Fin 256) j) (ix3 b h j) (by
      rw [Shape.rowMajor_val_two, Shape.rowMajor_val_three]; rfl)
  · exact sum_head (fun h => ∑ j : Fin 512, p (ix3 b h j) * Wv (ix2 d j)) (d.val / 64) (by omega)

/-- The second result at an index, from the parts of the packed array. -/
theorem lastOut_apply (x1 : Vec Ideal S2080x512 .f32) (bv bo : Vec Ideal S512 .f32) (p : Vec Ideal S32x8x512 .f32) (Wv Wo : Vec Ideal S512x512 .f32)
    (hv : View.ld x1 (Rect.unit (s := S2080x512) ![1024, 0] S512x512.size inb_S2080x512_S512x512_1024_0) = Wv)
    (ho : View.ld x1 (Rect.unit (s := S2080x512) ![1536, 0] S512x512.size inb_S2080x512_S512x512_1536_0) = Wo)
    (b : Fin 32) (n : Fin 512) :
    lastOut x1 bv bo p (ix2 b n) = (∑ d : Fin 512, pooledLane p Wv bv b d * Wo (ix2 n d)) + bo (ix1 n) := by
  unfold lastOut
  rw [hv, ho]
  unfold k0_pay12
  rw [shapeCast_self]
  unfold k0_pay7
  refine (rowProj_eq _ Wo bo b n).trans ?_
  unfold rowProj
  refine congrArg (fun x : EReal => x + bo (ix1 n)) (Finset.sum_congr rfl fun d _ => ?_)
  rw [pay11_apply]

end Cert.KernelIdeal.Hand

end
-- ==== Proof.Value.Reals.lean ====
/- The mathematics over the reals: a softmax is unchanged by a shift of its row, a power of two of a scaled score is an exponential,
   and a bias added to every value passes through weights that sum to one, an infinite bias too. -/
module

public import Idealize.ShloMosaic.PureOps.Ideal.Laws
public import Idealize.ShloMosaic.Lib.ValueIdx

@[expose] public section

set_option maxRecDepth 16384

noncomputable section

namespace Cert.Softmax

open Idealize.ShloMosaic Idealize.ShloMosaic.TcCoe Idealize.ShloMosaic.ValueIdx
open scoped BigOperators

/-- A sum of reals, as an extended real. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The maximum of a nonempty family of reals is a real. -/
theorem fold_max_real {ι : Type} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_eq_left bot_le⟩
  | cons a s ha hs ih =>
    obtain ⟨M, hM⟩ := ih
    rw [Finset.fold_cons, hM]
    rcases le_total (f a) M with h | h
    · exact ⟨M, max_eq_right (EReal.coe_le_coe_iff.mpr h)⟩
    · exact ⟨f a, max_eq_left (EReal.coe_le_coe_iff.mpr h)⟩

/-- The softmax weight of a position among a row's logits. -/
def weight (T : Fin 8192 → ℝ) (i : Fin 8192) : ℝ := Real.exp (T i) / ∑ k : Fin 8192, Real.exp (T k)

/-- The sum of a row's exponentials is positive. -/
theorem sum_exp_pos (T : Fin 8192 → ℝ) : 0 < ∑ k : Fin 8192, Real.exp (T k) :=
  Finset.sum_pos (fun k _ => Real.exp_pos _) ⟨0, Finset.mem_univ _⟩

/-- A weight is positive. -/
theorem weight_pos (T : Fin 8192 → ℝ) (i : Fin 8192) : 0 < weight T i := div_pos (Real.exp_pos _) (sum_exp_pos T)

/-- The weights of a row sum to one. -/
theorem weight_sum (T : Fin 8192 → ℝ) : ∑ i : Fin 8192, weight T i = 1 := by
  unfold weight
  rw [← Finset.sum_div]
  exact div_self (sum_exp_pos T).ne'

/-- A row shifted by a constant has the same weights. -/
theorem weight_shift (T : Fin 8192 → ℝ) (c : ℝ) (i : Fin 8192) : weight (fun k => T k - c) i = weight T i := by
  unfold weight
  simp only [sub_eq_add_neg, Real.exp_add, ← Finset.sum_mul]
  exact mul_div_mul_right _ _ (Real.exp_ne_zero _)

/-- Powers of two off a row's maximum are the exponentials of the scores times `log 2`, up to one positive factor. -/
theorem powers (S : Fin 8192 → ℝ) : ∃ g : ℝ, 0 < g ∧ ∀ i, Ideal.exp2 ((S i : EReal) - (Finset.univ : Finset (Fin 8192)).fold max ⊥ (fun k => (S k : EReal)))
    = ((Real.exp (S i * Real.log 2) * g : ℝ) : EReal) := by
  obtain ⟨M, hM⟩ := fold_max_real Finset.univ ⟨(0 : Fin 8192), Finset.mem_univ _⟩ S
  refine ⟨Real.exp (-(M * Real.log 2)), Real.exp_pos _, fun i => ?_⟩
  rw [hM, ← EReal.coe_sub, Ideal.exp2_coe]
  refine congrArg Real.toEReal ?_
  show (2 : ℝ) ^ (S i - M) = _
  rw [Real.rpow_def_of_pos (by norm_num), ← Real.exp_add]
  refine congrArg Real.exp ?_
  ring

/-- Exponentials off a row's maximum are the exponentials up to one positive factor. -/
theorem exponentials (T : Fin 8192 → ℝ) : ∃ g : ℝ, 0 < g ∧ ∀ i, Ideal.exp ((T i : EReal) - max ⊥ ((Finset.univ : Finset (Fin 8192)).fold max ⊥ (fun k => (T k : EReal))))
    = ((Real.exp (T i) * g : ℝ) : EReal) := by
  obtain ⟨M, hM⟩ := fold_max_real Finset.univ ⟨(0 : Fin 8192), Finset.mem_univ _⟩ T
  refine ⟨Real.exp (-M), Real.exp_pos _, fun i => ?_⟩
  rw [hM, max_eq_right (bot_le : (⊥ : EReal) ≤ _), ← EReal.coe_sub, Ideal.exp_coe]
  refine congrArg Real.toEReal ?_
  rw [← Real.exp_add, ← sub_eq_add_neg]

/-- The sum of a row's exponentials up to a factor. -/
theorem sum_scaled (T : Fin 8192 → ℝ) (g : ℝ) (e : Fin 8192 → EReal) (he : ∀ i, e i = ((Real.exp (T i) * g : ℝ) : EReal)) :
    (∑ i : Fin 8192, e i) = (((∑ k : Fin 8192, Real.exp (T k)) * g : ℝ) : EReal) := by
  rw [Finset.sum_mul, coe_sum]
  exact Finset.sum_congr rfl fun i _ => he i

/-- An exponential over the sum is the weight. -/
theorem over_sum (T : Fin 8192 → ℝ) (g : ℝ) (hg : 0 < g) (e : Fin 8192 → EReal) (he : ∀ i, e i = ((Real.exp (T i) * g : ℝ) : EReal)) (i : Fin 8192) :
    Ideal.div (e i) (0 + ∑ k : Fin 8192, e k) = (weight T i : EReal) := by
  have hs := sum_exp_pos T
  rw [zero_add, sum_scaled T g e he, he i, Ideal.div_coe (mul_pos hs hg).ne', ← EReal.coe_mul]
  refine congrArg Real.toEReal ?_
  unfold weight
  rw [mul_one_div]
  exact mul_div_mul_right _ _ hg.ne'

/-- One over the sum of the exponentials. -/
theorem one_over (T : Fin 8192 → ℝ) (g : ℝ) (hg : 0 < g) (e : Fin 8192 → EReal) (he : ∀ i, e i = ((Real.exp (T i) * g : ℝ) : EReal)) :
    Ideal.div 1 (∑ k : Fin 8192, e k) = ((1 / ((∑ k : Fin 8192, Real.exp (T k)) * g) : ℝ) : EReal) := by
  rw [sum_scaled T g e he, Ideal.div_coe (mul_pos (sum_exp_pos T) hg).ne', one_mul]

/-- An exponential times one over the sum is the weight. -/
theorem times_one_over (T : Fin 8192 → ℝ) (g : ℝ) (hg : 0 < g) (e : Fin 8192 → EReal) (he : ∀ i, e i = ((Real.exp (T i) * g : ℝ) : EReal)) (i : Fin 8192) :
    e i * Ideal.div 1 (∑ k : Fin 8192, e k) = (weight T i : EReal) := by
  rw [one_over T g hg e he, he i, ← EReal.coe_mul]
  refine congrArg Real.toEReal ?_
  unfold weight
  rw [mul_one_div]
  exact mul_div_mul_right _ _ hg.ne'

/-- A sum of values by the exponentials, times one over their sum, is the sum by the weights. -/
theorem pooled_over (T : Fin 8192 → ℝ) (g : ℝ) (hg : 0 < g) (e : Fin 8192 → EReal) (he : ∀ i, e i = ((Real.exp (T i) * g : ℝ) : EReal)) (x : Fin 8192 → ℝ) :
    (∑ i : Fin 8192, e i * (x i : EReal)) * Ideal.div 1 (∑ k : Fin 8192, e k) = ((∑ i : Fin 8192, weight T i * x i : ℝ) : EReal) := by
  have h1 : (∑ i : Fin 8192, e i * (x i : EReal)) = ((∑ i : Fin 8192, Real.exp (T i) * g * x i : ℝ) : EReal) := by
    rw [coe_sum]
    exact Finset.sum_congr rfl fun i _ => by rw [he i, ← EReal.coe_mul]
  rw [one_over T g hg e he, h1, ← EReal.coe_mul]
  refine congrArg Real.toEReal ?_
  rw [Finset.sum_mul]
  refine Finset.sum_congr rfl fun i _ => ?_
  have hs := (sum_exp_pos T).ne'
  have hg' := hg.ne'
  unfold weight
  field_simp

/-- The lane of a head's element. -/
def lane (h : Fin 8) (e : Fin 64) : Fin 512 := ⟨h.val * 64 + e.val, by omega⟩

/-- A sum over the lanes of one head is the sum over the head's elements. -/
theorem sum_lanes (f : Fin 512 → ℝ) (h : Fin 8) : (∑ d : Fin 512, if d.val / 64 = h.val then f d else 0) = ∑ e : Fin 64, f (lane h e) := by
  rw [← Finset.sum_filter]
  refine Finset.sum_nbij' (fun d => (⟨d.val % 64, Nat.mod_lt _ (by norm_num)⟩ : Fin 64)) (lane h) ?_ ?_ ?_ ?_ ?_
  · intro d _; exact Finset.mem_univ _
  · intro e _
    have he := e.isLt
    refine Finset.mem_filter.mpr ⟨Finset.mem_univ _, ?_⟩
    show (h.val * 64 + e.val) / 64 = h.val
    omega
  · intro d hd
    have hd' := (Finset.mem_filter.mp hd).2
    refine Fin.ext ?_
    show h.val * 64 + d.val % 64 = d.val
    omega
  · intro e _
    have he := e.isLt
    refine Fin.ext ?_
    show (h.val * 64 + e.val) % 64 = e.val
    omega
  · intro d hd
    have hd' := (Finset.mem_filter.mp hd).2
    refine congrArg f (Fin.ext ?_)
    show d.val = h.val * 64 + d.val % 64
    omega

/-- The logit of a key: the head's queries times its projected keys, over eight. -/
def logit (q : Fin 512 → ℝ) (W : Fin 512 → Fin 512 → ℝ) (β : Fin 512 → ℝ) (x : Fin 512 → ℝ) (h : Fin 8) : ℝ :=
  (∑ e : Fin 64, q (lane h e) * ((∑ j : Fin 512, x j * W (lane h e) j) + β (lane h e))) * (1 / 8)

/-- The part of a logit that does not depend on the key. -/
def shift (q : Fin 512 → ℝ) (β : Fin 512 → ℝ) (h : Fin 8) : ℝ := (∑ e : Fin 64, q (lane h e) * β (lane h e)) * (1 / 8)

/-- The folded query of a head: its lanes times the key weights, scaled. -/
def folded (q : Fin 512 → ℝ) (W : Fin 512 → Fin 512 → ℝ) (h : Fin 8) (j : Fin 512) : ℝ :=
  (∑ d : Fin 512, (if d.val / 64 = h.val then q d else 0) * W d j) * ((1 / 8) * (Real.log 2)⁻¹)

/-- The folded query times a key, times `log 2`, is the logit less the shift. -/
theorem folded_logit (q : Fin 512 → ℝ) (W : Fin 512 → Fin 512 → ℝ) (β : Fin 512 → ℝ) (x : Fin 512 → ℝ) (h : Fin 8) :
    (∑ j : Fin 512, folded q W h j * x j) * Real.log 2 = logit q W β x h - shift q β h := by
  have hl : Real.log 2 ≠ 0 := (Real.log_pos (by norm_num)).ne'
  have e1 : ∀ j, folded q W h j * x j = (∑ e : Fin 64, q (lane h e) * W (lane h e) j) * x j * ((1 / 8) * (Real.log 2)⁻¹) := by
    intro j
    unfold folded
    have : (∑ d : Fin 512, (if d.val / 64 = h.val then q d else 0) * W d j) = ∑ e : Fin 64, q (lane h e) * W (lane h e) j := by
      rw [← sum_lanes (fun d => q d * W d j) h]
      refine Finset.sum_congr rfl fun d _ => ?_
      rw [ite_mul, zero_mul]
    rw [this]
    ring
  have e2 : (∑ j : Fin 512, (∑ e : Fin 64, q (lane h e) * W (lane h e) j) * x j) = ∑ e : Fin 64, q (lane h e) * ∑ j : Fin 512, x j * W (lane h e) j := by
    simp only [Finset.sum_mul, Finset.mul_sum]
    rw [Finset.sum_comm]
    exact Finset.sum_congr rfl fun e _ => Finset.sum_congr rfl fun j _ => by ring
  unfold logit shift
  rw [Finset.sum_congr rfl fun j _ => e1 j, ← Finset.sum_mul, e2]
  simp only [mul_add, Finset.sum_add_distrib, add_mul, add_sub_cancel_right]
  rw [mul_assoc, mul_assoc, inv_mul_cancel₀ hl, mul_one]

/-- A nonempty sum of one infinity is that infinity. -/
theorem sum_same {ι : Type} (s : Finset ι) (hs : s.Nonempty) (a : EReal) (ha : a + a = a) : (∑ _i ∈ s, a) = a := by
  induction hs using Finset.Nonempty.cons_induction with
  | singleton b => rw [Finset.sum_singleton]
  | cons b s hb hs ih => rw [Finset.sum_cons, ih, ha]

/-- A bias added to every value passes through weights that are positive and sum to one, an infinite bias too. -/
theorem bias_through (p y : Fin 8192 → ℝ) (hp : ∀ i, 0 < p i) (hs : ∑ i : Fin 8192, p i = 1) (β : EReal) :
    (∑ i : Fin 8192, (p i : EReal) * ((y i : EReal) + β)) = ((∑ i : Fin 8192, p i * y i : ℝ) : EReal) + β := by
  induction β with
  | bot =>
    have h : ∀ i, (p i : EReal) * ((y i : EReal) + ⊥) = ⊥ := fun i => by rw [EReal.add_bot, EReal.coe_mul_bot_of_pos (hp i)]
    rw [EReal.add_bot, Finset.sum_congr rfl fun i _ => h i]
    exact sum_same _ ⟨0, Finset.mem_univ _⟩ _ (EReal.add_bot _)
  | top =>
    have h : ∀ i, (p i : EReal) * ((y i : EReal) + ⊤) = ⊤ := fun i => by rw [EReal.coe_add_top, EReal.coe_mul_top_of_pos (hp i)]
    rw [EReal.coe_add_top, Finset.sum_congr rfl fun i _ => h i]
    exact sum_same _ ⟨0, Finset.mem_univ _⟩ _ rfl
  | coe b =>
    rw [← EReal.coe_add]
    have h : (∑ i : Fin 8192, p i * y i) + b = ∑ i : Fin 8192, p i * (y i + b) := by
      simp only [mul_add, Finset.sum_add_distrib, ← Finset.sum_mul, hs, one_mul]
    rw [h, coe_sum]
    exact Finset.sum_congr rfl fun i _ => by rw [← EReal.coe_add, ← EReal.coe_mul]

/-- Pooled inputs times a weight's row are the pooled products. -/
theorem pooled_row (p : Fin 8192 → ℝ) (x : Fin 8192 → Fin 512 → ℝ) (w : Fin 512 → ℝ) :
    (∑ j : Fin 512, (∑ i : Fin 8192, p i * x i j) * w j) = ∑ i : Fin 8192, p i * ∑ j : Fin 512, x i j * w j := by
  simp only [Finset.sum_mul, Finset.mul_sum]
  rw [Finset.sum_comm]
  exact Finset.sum_congr rfl fun i _ => Finset.sum_congr rfl fun j _ => by ring

end Cert.Softmax

end
-- ==== Proof.Value.Reference.lean ====
/- The reference read at an index: projections, logits, softmax weights, pooled values and the output, each a sum of products of the
   arguments. -/
module

public import proofs.«01_k».proof.Proof.Gen.ReferenceIdeal.Read
public import proofs.«01_k».proof.Proof.Value.Reals
public import proofs.«01_k».proof.Proof.Value.Words

@[expose] public section

set_option maxRecDepth 16384

noncomputable section

namespace Cert.ReferenceIdeal.Hand

open Cert.ReferenceIdeal Cert.ReferenceIdeal.Gen Cert.ReferenceIdeal.Read Cert.Softmax
open Cert.KernelIdeal.Hand (word_zero word_one word_eight word_bot word_top)
open Idealize.ShloMosaic Idealize.ShloMosaic.TcCoe Idealize.ShloMosaic.ValueIdx
open scoped BigOperators

variable (x0 : Vec Ideal S32x512 .f32) (x1 : Vec Ideal S32x8192x512 .f32) (x2 : Vec Ideal S32x8192 .i1) (x3 : Vec Ideal S512x512 .f32)
  (x4 : Vec Ideal S512 .f32) (x5 : Vec Ideal S512x512 .f32) (x6 : Vec Ideal S512 .f32) (x7 : Vec Ideal S512x512 .f32) (x8 : Vec Ideal S512 .f32)
  (x9 : Vec Ideal S512x512 .f32) (x10 : Vec Ideal S512 .f32)

/-- A query lane of a batch entry. -/
def query (b : Fin 32) (d : Fin 512) : EReal := (∑ k : Fin 512, x0 (ix2 b k) * x3 (ix2 d k)) + x4 (ix1 d)

/-- A projected lane of a batch entry's position, by a weight and a bias. -/
def proj (W : Vec Ideal S512x512 .f32) (β : Vec Ideal S512 .f32) (b : Fin 32) (i : Fin 8192) (d : Fin 512) : EReal :=
  (∑ j : Fin 512, x1 (ix3 b i j) * W (ix2 d j)) + β (ix1 d)

/-- A logit: a head's query times its projected key, over eight. -/
def rlogit (b : Fin 32) (h : Fin 8) (i : Fin 8192) : EReal :=
  Ideal.div (∑ e : Fin 64, query x0 x3 x4 b (lane h e) * proj x1 x5 x6 b i (lane h e)) ((8 : ℝ) : EReal)

/-- The exponential of a logit off its row's largest. -/
def rexp (b : Fin 32) (h : Fin 8) (i : Fin 8192) : EReal :=
  Ideal.exp (rlogit x0 x1 x3 x4 x5 x6 b h i - max ⊥ ((Finset.univ : Finset (Fin 8192)).fold max ⊥ fun k => rlogit x0 x1 x3 x4 x5 x6 b h k))

/-- A softmax weight. -/
def rattn (b : Fin 32) (h : Fin 8) (i : Fin 8192) : EReal :=
  Ideal.div (rexp x0 x1 x3 x4 x5 x6 b h i) (0 + ∑ k : Fin 8192, rexp x0 x1 x3 x4 x5 x6 b h k)

/-- A pooled value: the lane's head weighs the projected values. -/
def rpooled (b : Fin 32) (d : Fin 512) : EReal :=
  ∑ i : Fin 8192, rattn x0 x1 x3 x4 x5 x6 b (⟨d.val / 64, by omega⟩ : Fin 8) i * proj x1 x7 x8 b i d

/-- The transposed query weight is read at its row and column swapped. -/
theorem ix_v0 (b : Fin 32) (d k : Fin 512) : idx_main_v0 (ridx_main_v1 (ix2 b d) k) = ix2 d k := by
  funext a
  match a with
  | ⟨0, _⟩ => rfl
  | ⟨1, _⟩ => rfl

/-- The query product's left operand. -/
theorem ix_v1 (b : Fin 32) (d k : Fin 512) : lidx_main_v1 (ix2 b d) k = ix2 b k := by
  funext a
  match a with
  | ⟨0, _⟩ => rfl
  | ⟨1, _⟩ => rfl

/-- The query bias's lane. -/
theorem ix_v3 (b : Fin 32) (d : Fin 512) : idx_main_v2 (idx_main_v3 (ix2 b d)) = ix1 d := by
  funext a
  match a with
  | ⟨0, _⟩ => rfl

/-- The query projection. -/
theorem v4_at (b : Fin 32) (d : Fin 512) : val_main_v4 (F := Ideal) x0 x3 x4 (ix2 b d) = query x0 x3 x4 b d := by
  rw [val_main_v4_apply, val_main_v1_apply, val_main_v3_apply, val_main_v2_apply, ix_v3]
  refine congrArg (fun y : EReal => y + x4 (ix1 d)) (Finset.sum_congr rfl fun k _ => ?_)
  rw [val_main_v0_apply, ix_v0, ix_v1]

/-- The transposed key weight is read at its row and column swapped. -/
theorem ix_v6 (b : Fin 32) (i : Fin 8192) (d k : Fin 512) : idx_main_v6 (ridx_main_v7 (ix3 b i d) k) = ix2 d k := by
  funext a
  match a with
  | ⟨0, _⟩ => rfl
  | ⟨1, _⟩ => rfl

/-- The key product's left operand. -/
theorem ix_v7 (b : Fin 32) (i : Fin 8192) (d k : Fin 512) : lidx_main_v7 (ix3 b i d) k = ix3 b i k := by
  funext a
  match a with
  | ⟨0, _⟩ => rfl
  | ⟨1, _⟩ => rfl
  | ⟨2, _⟩ => rfl

/-- The key bias's lane. -/
theorem ix_v9 (b : Fin 32) (i : Fin 8192) (d : Fin 512) : idx_main_v8 (idx_main_v9 (ix3 b i d)) = ix1 d := by
  funext a
  match a with
  | ⟨0, _⟩ => rfl

/-- The key projection. -/
theorem v10_at (b : Fin 32) (i : Fin 8192) (d : Fin 512) : val_main_v10 (F := Ideal) x1 x5 x6 (ix3 b i d) = proj x1 x5 x6 b i d := by
  rw [val_main_v10_apply, val_main_v7_apply, val_main_v9_apply, val_main_v8_apply, ix_v9]
  refine congrArg (fun y : EReal => y + x6 (ix1 d)) (Finset.sum_congr rfl fun k _ => ?_)
  rw [val_main_v6_apply, ix_v6, ix_v7]

/-- The transposed value weight is read at its row and column swapped. -/
theorem ix_v12 (b : Fin 32) (i : Fin 8192) (d k : Fin 512) : idx_main_v12 (ridx_main_v13 (ix3 b i d) k) = ix2 d k := by
  funext a
  match a with
  | ⟨0, _⟩ => rfl
  | ⟨1, _⟩ => rfl

/-- The value product's left operand. -/
theorem ix_v13 (b : Fin 32) (i : Fin 8192) (d k : Fin 512) : lidx_main_v13 (ix3 b i d) k = ix3 b i k := by
  funext a
  match a with
  | ⟨0, _⟩ => rfl
  | ⟨1, _⟩ => rfl
  | ⟨2, _⟩ => rfl

/-- The value bias's lane. -/
theorem ix_v15 (b : Fin 32) (i : Fin 8192) (d : Fin 512) : idx_main_v14 (idx_main_v15 (ix3 b i d)) = ix1 d := by
  funext a
  match a with
  | ⟨0, _⟩ => rfl

/-- The value projection. -/
theorem v16_at (b : Fin 32) (i : Fin 8192) (d : Fin 512) : val_main_v16 (F := Ideal) x1 x7 x8 (ix3 b i d) = proj x1 x7 x8 b i d := by
  rw [val_main_v16_apply, val_main_v13_apply, val_main_v15_apply, val_main_v14_apply, ix_v15]
  refine congrArg (fun y : EReal => y + x8 (ix1 d)) (Finset.sum_congr rfl fun k _ => ?_)
  rw [val_main_v12_apply, ix_v12, ix_v13]

/-- A head's element of the query is a lane. -/
theorem ix_v5 (b : Fin 32) (h : Fin 8) (i : Fin 8192) (e : Fin 64) : idx_main_v5 (lidx_main_v18 (ix3 b h i) e) = ix2 b (lane h e) := by
  funext a
  match a with
  | ⟨0, _⟩ => refine Fin.ext ?_; show ((b.val * 8 + h.val) * 64 + e.val) / 512 = b.val; omega
  | ⟨1, _⟩ => refine Fin.ext ?_; show ((b.val * 8 + h.val) * 64 + e.val) % 512 = h.val * 64 + e.val; omega

/-- A head's element of the key is a lane. -/
theorem ix_v11 (b : Fin 32) (h : Fin 8) (i : Fin 8192) (e : Fin 64) : idx_main_v11 (ridx_main_v18 (ix3 b h i) e) = ix3 b i (lane h e) := by
  funext a
  match a with
  | ⟨0, _⟩ => refine Fin.ext ?_; show (((b.val * 8192 + i.val) * 8 + h.val) * 64 + e.val) / 4194304 = b.val; omega
  | ⟨1, _⟩ => refine Fin.ext ?_; show (((b.val * 8192 + i.val) * 8 + h.val) * 64 + e.val) / 512 % 8192 = i.val; omega
  | ⟨2, _⟩ => refine Fin.ext ?_; show (((b.val * 8192 + i.val) * 8 + h.val) * 64 + e.val) % 512 = h.val * 64 + e.val; omega

/-- The mask is the same for every head. -/
theorem ix_mask (b : Fin 32) (h : Fin 8) (i : Fin 8192) : idx_main_v21 (idx_main_call0_v0 (ix3 b h i)) = ix2 b i := by
  funext a
  match a with
  | ⟨0, _⟩ => rfl
  | ⟨1, _⟩ => rfl

/-- The masked logits, where the mask lets everything through. -/
theorem v22_at (hm : ∀ b i, x2 (ix2 b i) = 1#1) (b : Fin 32) (h : Fin 8) (i : Fin 8192) :
    val_main_v22 (F := Ideal) x0 x1 x2 x3 x4 x5 x6 (ix3 b h i) = rlogit x0 x1 x3 x4 x5 x6 b h i := by
  rw [val_main_v22_apply, val_main_call0_v0_apply, val_main_v21_apply, ix_mask, hm]
  refine (if_pos rfl : Scalar.select (1#1) _ _ = _).trans ?_
  rw [val_main_v20_apply, val_main_v18_apply, val_main_v19_apply, val_main_cst_apply, word_eight]
  refine congrArg (fun y : EReal => Ideal.div y ((8 : ℝ) : EReal)) (Finset.sum_congr rfl fun e _ => ?_)
  rw [val_main_v5_apply, val_main_v11_apply, ix_v5, ix_v11, v4_at, v10_at]

/-- The axis of positions, as the reduction over it wants it. -/
theorem reduces_row : S32x8x8192.Reduces [2] S32x8 := by decide

/-- A head's index with a position put back. -/
theorem lift_row (b : Fin 32) (h : Fin 8) (i : Fin 8192) : reduces_row.lift (ix2 b h) i = ix3 b h i := by
  funext a
  match a with
  | ⟨0, _⟩ => rfl
  | ⟨1, _⟩ => rfl
  | ⟨2, _⟩ => rfl

/-- The largest logit of a head. -/
theorem v25_at (hm : ∀ b i, x2 (ix2 b i) = 1#1) (b : Fin 32) (h : Fin 8) :
    val_main_v25 (F := Ideal) x0 x1 x2 x3 x4 x5 x6 (ix2 b h)
    = max ⊥ ((Finset.univ : Finset (Fin 8192)).fold max ⊥ fun k => rlogit x0 x1 x3 x4 x5 x6 b h k) := by
  rw [val_main_v25_apply, val_main_v24_apply, val_main_cst_2_apply, word_bot]
  refine congrArg (fun y : EReal => max ⊥ y) ?_
  unfold val_main_v23
  refine (Host.reduce_eq_fold_single (FloatOps.maximumf (F := Ideal) (φ := .f32)) _ _ reducesTo_S32x8x8192_S32x8_d2 reduces_row h_S_ (ix2 b h)).trans ?_
  rw [val_main_cst_1_apply, word_bot]
  refine congrArg (fun f : Fin 8192 → EReal => (Finset.univ : Finset (Fin 8192)).fold max ⊥ f) (funext fun k => ?_)
  exact (congrArg _ (lift_row b h k)).trans (v22_at x0 x1 x2 x3 x4 x5 x6 hm b h k)

/-- The row of a maximum put over its positions. -/
theorem ix_v27 (b : Fin 32) (h : Fin 8) (i : Fin 8192) : idx_main_v26 (idx_main_v27 (ix3 b h i)) = ix2 b h := by
  funext a
  match a with
  | ⟨0, _⟩ => rfl
  | ⟨1, _⟩ => rfl

/-- The row of a sum put over its positions. -/
theorem ix_v32 (b : Fin 32) (h : Fin 8) (i : Fin 8192) : idx_main_v31 (idx_main_v32 (ix3 b h i)) = ix2 b h := by
  funext a
  match a with
  | ⟨0, _⟩ => rfl
  | ⟨1, _⟩ => rfl

/-- A position of a row's sum. -/
theorem ix_v30 (b : Fin 32) (h : Fin 8) (k : Fin 8192) : idx_main_v30 (ix2 b h) k = ix3 b h k := by
  funext a
  match a with
  | ⟨0, _⟩ => rfl
  | ⟨1, _⟩ => rfl
  | ⟨2, _⟩ => rfl

/-- The exponentials. -/
theorem v29_at (hm : ∀ b i, x2 (ix2 b i) = 1#1) (b : Fin 32) (h : Fin 8) (i : Fin 8192) :
    val_main_v29 (F := Ideal) x0 x1 x2 x3 x4 x5 x6 (ix3 b h i) = rexp x0 x1 x3 x4 x5 x6 b h i := by
  rw [val_main_v29_apply, val_main_v28_apply, val_main_v27_apply, val_main_v26_apply, ix_v27, v25_at x0 x1 x2 x3 x4 x5 x6 hm, v22_at x0 x1 x2 x3 x4 x5 x6 hm]
  rfl

/-- The softmax weights: the reference's first result. -/
theorem v33_at (hm : ∀ b i, x2 (ix2 b i) = 1#1) (b : Fin 32) (h : Fin 8) (i : Fin 8192) :
    val_main_v33 (F := Ideal) x0 x1 x2 x3 x4 x5 x6 (ix3 b h i) = rattn x0 x1 x3 x4 x5 x6 b h i := by
  rw [val_main_v33_apply, val_main_v32_apply, val_main_v31_apply, ix_v32, v29_at x0 x1 x2 x3 x4 x5 x6 hm, val_main_v30_apply, val_main_cst_3_apply, word_zero]
  refine congrArg (fun y : EReal => Ideal.div (rexp x0 x1 x3 x4 x5 x6 b h i) (0 + y)) (Finset.sum_congr rfl fun k _ => ?_)
  rw [ix_v30, v29_at x0 x1 x2 x3 x4 x5 x6 hm]

/-- A lane's weights are those of its head. -/
theorem ix_v34 (b : Fin 32) (d : Fin 512) (k : Fin 8192) : lidx_main_v34 (idx_main_v35 (ix2 b d)) k = ix3 b (⟨d.val / 64, by omega⟩ : Fin 8) k := by
  funext a
  match a with
  | ⟨0, _⟩ => refine Fin.ext ?_; show (b.val * 512 + d.val) / 512 = b.val; omega
  | ⟨1, _⟩ => refine Fin.ext ?_; show (b.val * 512 + d.val) / 64 % 8 = d.val / 64; omega
  | ⟨2, _⟩ => rfl

/-- A lane's values are the projected values at the lane. -/
theorem ix_v17 (b : Fin 32) (d : Fin 512) (k : Fin 8192) : idx_main_v17 (ridx_main_v34 (idx_main_v35 (ix2 b d)) k) = ix3 b k d := by
  funext a
  match a with
  | ⟨0, _⟩ => refine Fin.ext ?_; show ((((b.val * 512 + d.val) / 512 * 8192 + k.val) * 8 + (b.val * 512 + d.val) / 64 % 8) * 64 + (b.val * 512 + d.val) % 64) / 4194304 = b.val; omega
  | ⟨1, _⟩ => refine Fin.ext ?_; show ((((b.val * 512 + d.val) / 512 * 8192 + k.val) * 8 + (b.val * 512 + d.val) / 64 % 8) * 64 + (b.val * 512 + d.val) % 64) / 512 % 8192 = k.val; omega
  | ⟨2, _⟩ => refine Fin.ext ?_; show ((((b.val * 512 + d.val) / 512 * 8192 + k.val) * 8 + (b.val * 512 + d.val) / 64 % 8) * 64 + (b.val * 512 + d.val) % 64) % 512 = d.val; omega

/-- The pooled values. -/
theorem v35_at (hm : ∀ b i, x2 (ix2 b i) = 1#1) (b : Fin 32) (d : Fin 512) :
    val_main_v35 (F := Ideal) x0 x1 x2 x3 x4 x5 x6 x7 x8 (ix2 b d) = rpooled x0 x1 x3 x4 x5 x6 x7 x8 b d := by
  rw [val_main_v35_apply, val_main_v34_apply]
  refine Finset.sum_congr rfl fun k _ => ?_
  rw [ix_v34, v33_at x0 x1 x2 x3 x4 x5 x6 hm, val_main_v17_apply, ix_v17, v16_at]

/-- The transposed output weight is read at its row and column swapped. -/
theorem ix_v36 (b : Fin 32) (n d : Fin 512) : idx_main_v36 (ridx_main_v37 (ix2 b n) d) = ix2 n d := by
  funext a
  match a with
  | ⟨0, _⟩ => rfl
  | ⟨1, _⟩ => rfl

/-- The output product's left operand. -/
theorem ix_v37 (b : Fin 32) (n d : Fin 512) : lidx_main_v37 (ix2 b n) d = ix2 b d := by
  funext a
  match a with
  | ⟨0, _⟩ => rfl
  | ⟨1, _⟩ => rfl

/-- The output bias's lane. -/
theorem ix_v39 (b : Fin 32) (n : Fin 512) : idx_main_v38 (idx_main_v39 (ix2 b n)) = ix1 n := by
  funext a
  match a with
  | ⟨0, _⟩ => rfl

/-- The output: the reference's second result. -/
theorem v40_at (hm : ∀ b i, x2 (ix2 b i) = 1#1) (b : Fin 32) (n : Fin 512) :
    val_main_v40 (F := Ideal) x0 x1 x2 x3 x4 x5 x6 x7 x8 x9 x10 (ix2 b n)
    = (∑ d : Fin 512, rpooled x0 x1 x3 x4 x5 x6 x7 x8 b d * x9 (ix2 n d)) + x10 (ix1 n) := by
  rw [val_main_v40_apply, val_main_v37_apply, val_main_v39_apply, val_main_v38_apply, ix_v39]
  refine congrArg (fun y : EReal => y + x10 (ix1 n)) (Finset.sum_congr rfl fun d _ => ?_)
  rw [val_main_v36_apply, ix_v36, ix_v37, v35_at x0 x1 x2 x3 x4 x5 x6 x7 x8 hm]

end Cert.ReferenceIdeal.Hand

end
-- ==== Proof.Value.Meet.lean ====
/- The two sides meet over the reals: the kernel's softmax weights, pooled keys and pooled values are the reference's. -/
module

public import proofs.«01_k».proof.Proof.Value.Row
public import proofs.«01_k».proof.Proof.Value.Last
public import proofs.«01_k».proof.Proof.Value.Reference

@[expose] public section

set_option maxRecDepth 16384

noncomputable section

namespace Cert.Meet

open Cert.KernelIdeal Cert.KernelIdeal.Hand Cert.ReferenceIdeal.Hand Cert.Softmax
open Idealize.ShloMosaic Idealize.ShloMosaic.TcCoe Idealize.ShloMosaic.ValueIdx
open scoped BigOperators

/-- The arguments that hold reals, with those reals. -/
structure Reals (x0 : Vec Ideal S32x512 .f32) (x1 : Vec Ideal S32x8192x512 .f32) (x3 : Vec Ideal S512x512 .f32) (x4 : Vec Ideal S512 .f32)
    (x5 : Vec Ideal S512x512 .f32) (x6 : Vec Ideal S512 .f32) (x7 : Vec Ideal S512x512 .f32) where
  /-- The first argument's reals. -/
  r : S32x512.Idx → ℝ
  /-- The keys' reals. -/
  k : S32x8192x512.Idx → ℝ
  /-- The query weight's reals. -/
  wq : S512x512.Idx → ℝ
  /-- The query bias's reals. -/
  bq : S512.Idx → ℝ
  /-- The key weight's reals. -/
  wk : S512x512.Idx → ℝ
  /-- The key bias's reals. -/
  bk : S512.Idx → ℝ
  /-- The value weight's reals. -/
  wv : S512x512.Idx → ℝ
  hr : ∀ i, x0 i = (r i : EReal)
  hk : ∀ i, x1 i = (k i : EReal)
  hwq : ∀ i, x3 i = (wq i : EReal)
  hbq : ∀ i, x4 i = (bq i : EReal)
  hwk : ∀ i, x5 i = (wk i : EReal)
  hbk : ∀ i, x6 i = (bk i : EReal)
  hwv : ∀ i, x7 i = (wv i : EReal)

variable {x0 : Vec Ideal S32x512 .f32} {x1 : Vec Ideal S32x8192x512 .f32} {x3 : Vec Ideal S512x512 .f32} {x4 : Vec Ideal S512 .f32}
  {x5 : Vec Ideal S512x512 .f32} {x6 : Vec Ideal S512 .f32} {x7 : Vec Ideal S512x512 .f32} (R : Reals x0 x1 x3 x4 x5 x6 x7)

/-- A query lane, a real. -/
def q (b : Fin 32) (d : Fin 512) : ℝ := (∑ k : Fin 512, R.r (ix2 b k) * R.wq (ix2 d k)) + R.bq (ix1 d)

/-- A row's logits, reals. -/
def logits (b : Fin 32) (h : Fin 8) (i : Fin 8192) : ℝ :=
  logit (q R b) (fun d j => R.wk (ix2 d j)) (fun d => R.bk (ix1 d)) (fun j => R.k (ix3 b i j)) h

/-- A sum of products of reals. -/
theorem sum_coe {ι : Type} [Fintype ι] (f g : ι → EReal) (a b : ι → ℝ) (hf : ∀ i, f i = (a i : EReal)) (hg : ∀ i, g i = (b i : EReal)) :
    (∑ i, f i * g i) = ((∑ i, a i * b i : ℝ) : EReal) := by
  rw [coe_sum]
  exact Finset.sum_congr rfl fun i _ => by rw [hf, hg, ← EReal.coe_mul]

/-- The reference's query lane. -/
theorem query_coe (b : Fin 32) (d : Fin 512) : query x0 x3 x4 b d = (q R b d : EReal) := by
  unfold query q
  rw [sum_coe _ _ _ _ (fun k => R.hr (ix2 b k)) (fun k => R.hwq (ix2 d k)), R.hbq, ← EReal.coe_add]

/-- The kernel's query lane. -/
theorem rowProj_coe (b : Fin 32) (d : Fin 512) : rowProj x0 x3 x4 b d = (q R b d : EReal) := query_coe R b d

/-- The reference's logit. -/
theorem rlogit_coe (b : Fin 32) (h : Fin 8) (i : Fin 8192) : rlogit x0 x1 x3 x4 x5 x6 b h i = (logits R b h i : EReal) := by
  unfold rlogit logits logit
  have hp : ∀ d, proj x1 x5 x6 b i d = (((∑ j : Fin 512, R.k (ix3 b i j) * R.wk (ix2 d j)) + R.bk (ix1 d) : ℝ) : EReal) := fun d => by
    unfold proj
    rw [sum_coe _ _ _ _ (fun j => R.hk (ix3 b i j)) (fun j => R.hwk (ix2 d j)), R.hbk, ← EReal.coe_add]
  rw [sum_coe _ _ _ _ (fun e => query_coe R b (lane h e)) (fun e => hp (lane h e)), Ideal.div_coe (by norm_num : (8 : ℝ) ≠ 0), ← EReal.coe_mul]

/-- The reference's softmax weight. -/
theorem rattn_coe (b : Fin 32) (h : Fin 8) (i : Fin 8192) : rattn x0 x1 x3 x4 x5 x6 b h i = (weight (logits R b h) i : EReal) := by
  obtain ⟨g, hg, he⟩ := exponentials (logits R b h)
  unfold rattn
  refine over_sum (logits R b h) g hg _ (fun k => ?_) i
  rw [← he k]
  unfold rexp
  simp only [rlogit_coe R]

/-- A score of the kernel, a real. -/
def scores (b : Fin 32) (h : Fin 8) (i : Fin 8192) : ℝ :=
  ∑ j : Fin 512, folded (q R b) (fun d j => R.wk (ix2 d j)) h j * R.k (ix3 b i j)

/-- The kernel's scores times `log 2` have the weights of the logits. -/
theorem weight_scores (b : Fin 32) (h : Fin 8) (i : Fin 8192) : weight (fun k => scores R b h k * Real.log 2) i = weight (logits R b h) i := by
  have e : (fun k => scores R b h k * Real.log 2) = fun k => logits R b h k - shift (q R b) (fun d => R.bk (ix1 d)) h :=
    funext fun k => folded_logit (q R b) (fun d j => R.wk (ix2 d j)) (fun d => R.bk (ix1 d)) (fun j => R.k (ix3 b k j)) h
  rw [e, weight_shift]

/-- The first carried buffer's element, a real. -/
theorem folded_coe (b : Fin 32) (h : Fin 8) (j : Fin 512) :
    (∑ d : Fin 512, (if d.val / 64 = h.val then rowProj x0 x3 x4 b d else 0) * x5 (ix2 d j)) * scaleWord
    = (folded (q R b) (fun d j => R.wk (ix2 d j)) h j : EReal) := by
  unfold folded scaleWord
  refine (congrArg (fun y : EReal => y * (((1 / 8) * (Real.log 2)⁻¹ : ℝ) : EReal)) (sum_coe _ _ (fun d : Fin 512 => if d.val / 64 = h.val then q R b d else 0)
    (fun d => R.wk (ix2 d j)) (fun d => ?_) (fun d => R.hwk (ix2 d j)))).trans (EReal.coe_mul _ _).symm
  show (if d.val / 64 = h.val then rowProj x0 x3 x4 b d else 0) = (((if d.val / 64 = h.val then q R b d else 0 : ℝ)) : EReal)
  split
  · exact rowProj_coe R b d
  · exact EReal.coe_zero.symm

/-- A row of the first carried buffer and the keys' block of the same batch entry. -/
structure Row (b : Fin 32) (a : Vec Ideal S1x8x512 .f32) (k : Vec Ideal S1x8192x512 .f32) : Prop where
  ha : ∀ h j, a (ix3 (0 : Fin 1) h j) = (folded (q R b) (fun d j => R.wk (ix2 d j)) h j : EReal)
  hk : ∀ i j, k (ix3 (0 : Fin 1) i j) = (R.k (ix3 b i j) : EReal)

variable {R} {b : Fin 32} {a : Vec Ideal S1x8x512 .f32} {k : Vec Ideal S1x8192x512 .f32}

/-- The kernel's exponentials, up to one positive factor. -/
theorem expo_coe (hrow : Row R b a k) (h : Fin 8) : ∃ g : ℝ, 0 < g ∧ ∀ i, expo a k h i = ((Real.exp (scores R b h i * Real.log 2) * g : ℝ) : EReal) := by
  have hs : ∀ i, score a k h i = (scores R b h i : EReal) := fun i => sum_coe _ _ _ _ (fun j => hrow.ha h j) (fun j => hrow.hk i j)
  obtain ⟨g, hg, he⟩ := powers (scores R b h)
  refine ⟨g, hg, fun i => ?_⟩
  rw [← he i]
  unfold expo top
  simp only [hs]

/-- The kernel's softmax weight. -/
theorem attn_coe (hrow : Row R b a k) (h : Fin 8) (i : Fin 8192) : expo a k h i * recip a k h = (weight (logits R b h) i : EReal) := by
  obtain ⟨g, hg, he⟩ := expo_coe hrow h
  rw [← weight_scores]
  exact times_one_over _ g hg _ he i

/-- The kernel's pooled keys. -/
theorem keys_coe (hrow : Row R b a k) (h : Fin 8) (j : Fin 512) :
    (∑ i : Fin 8192, expo a k h i * k (ix3 (0 : Fin 1) i j)) * recip a k h = ((∑ i : Fin 8192, weight (logits R b h) i * R.k (ix3 b i j) : ℝ) : EReal) := by
  obtain ⟨g, hg, he⟩ := expo_coe hrow h
  simp only [hrow.hk, ← weight_scores]
  exact pooled_over _ g hg _ he fun i => R.k (ix3 b i j)

/-- The kernel's pooled values are the reference's, whatever the value bias. -/
theorem pooled_meet (R : Reals x0 x1 x3 x4 x5 x6 x7) (p : Vec Ideal S32x8x512 .f32) (x8 : Vec Ideal S512 .f32) (b : Fin 32) (d : Fin 512)
    (hp : ∀ h j, p (ix3 b h j) = ((∑ i : Fin 8192, weight (logits R b h) i * R.k (ix3 b i j) : ℝ) : EReal)) :
    pooledLane p x7 x8 b d = rpooled x0 x1 x3 x4 x5 x6 x7 x8 b d := by
  unfold pooledLane rpooled
  rw [sum_coe _ _ _ _ (fun j => hp (⟨d.val / 64, by omega⟩ : Fin 8) j) (fun j => R.hwv (ix2 d j))]
  rw [pooled_row (weight (logits R b ⟨d.val / 64, by omega⟩)) (fun i j => R.k (ix3 b i j)) (fun j => R.wv (ix2 d j))]
  rw [← bias_through _ _ (weight_pos _) (weight_sum _) (x8 (ix1 d))]
  refine Finset.sum_congr rfl fun i _ => ?_
  rw [rattn_coe R]
  unfold proj
  rw [sum_coe _ _ _ _ (fun j => R.hk (ix3 b i j)) (fun j => R.hwv (ix2 d j))]

end Cert.Meet

end
-- ==== Proof.Value.Results.lean ====
/- Both results of a launch that starts at reals behind an open mask, element by element: the reference's terms. -/
module

public import proofs.«01_k».proof.Proof.Value.Packed
public import proofs.«01_k».proof.Proof.Value.Meet

@[expose] public section

set_option maxRecDepth 16384

noncomputable section

namespace Cert.Meet

open Cert.KernelIdeal Cert.KernelIdeal.Gen Cert.KernelIdeal.Hand Cert.ReferenceIdeal.Hand Cert.Softmax
open Idealize.SL.Sem
open Idealize.ShloMosaic Idealize.ShloMosaic.TcCoe Idealize.ShloMosaic.ValueIdx
open scoped BigOperators

variable (m : (ℓ : Loc nD τ sig) → Buf (Elt Ideal) ℓ) (c : Dev nD)

/-- The packed operand holds the four weights and the first argument. -/
theorem operand_eq (t : Fin cfg0.N) : iblk m c 1 t = packed (m ((c : Thread nD τ).loc main_arg3)) (m ((c : Thread nD τ).loc main_arg5)) (m ((c : Thread nD τ).loc main_arg7)) (m ((c : Thread nD τ).loc main_arg9)) (m ((c : Thread nD τ).loc main_arg0)) :=
  (iblk_1 m c t).trans (packed_eq m c)

/-- A row of a carried buffer, read. -/
theorem rowOf_apply (x : Vec Ideal S32x8x512 .f32) (b : Fin 32) (h : Fin 8) (j : Fin 512) :
    rowOf x (grid0.coords (ptOf b)) (ix3 (0 : Fin 1) h j) = x (ix3 b h j) := by
  unfold rowOf
  have e0 : k0_off1 (grid0.coords (ptOf b)) 0 = b.val := (congrFun (k0_off1_eq (grid0.coords (ptOf b))) 0).trans (coord_val (ptOf b))
  have e1 : k0_off1 (grid0.coords (ptOf b)) 1 = 0 := congrFun (k0_off1_eq (grid0.coords (ptOf b))) 1
  have e2 : k0_off1 (grid0.coords (ptOf b)) 2 = 0 := congrFun (k0_off1_eq (grid0.coords (ptOf b))) 2
  exact View.ld_unit_apply_of (Val := Elt Ideal) (e := .f32) x _ _ _ (ix3 (0 : Fin 1) h j) (ix3 b h j) (fun a => match a with
    | ⟨0, _⟩ => by show b.val = k0_off1 (grid0.coords (ptOf b)) 0 + 0; omega
    | ⟨1, _⟩ => by show h.val = k0_off1 (grid0.coords (ptOf b)) 1 + h.val; omega
    | ⟨2, _⟩ => by show j.val = k0_off1 (grid0.coords (ptOf b)) 2 + j.val; omega)

variable {m c} (R : Reals (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))

include R

/-- The first carried buffer holds the folded queries. -/
theorem bufA_coe (b : Fin 32) (h : Fin 8) (j : Fin 512) :
    bufA m c (ix3 b h j) = (folded (q R b) (fun d j => R.wk (ix2 d j)) h j : EReal) := by
  unfold bufA
  rw [operand_eq, iblk_2]
  exact (firstBuf_apply _ _ _ _ _ (part_r _ _ _ _ _) (part_Wq _ _ _ _ _) (part_Wk _ _ _ _ _) b h j).trans (folded_coe R b h j)

/-- What point `b` works on: its row of the folded queries and its keys. -/
theorem row_at (b : Fin 32) : Row R b (rowOf (bufA m c) (grid0.coords (ptOf b))) (iblk m c 0 (ptOf b)) :=
  ⟨fun h j => (rowOf_apply _ b h j).trans (bufA_coe R b h j), fun i j => (iblk_0 m c (ptOf b) (ix3 (0 : Fin 1) i j)).trans (R.hk (ix3 b i j))⟩

/-- The kernel's first result, element by element. -/
theorem attn_at (b : Fin 32) (h : Fin 8) (i : Fin 8192) :
    attnArr m c (ix3 b h i) = rattn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b h i := by
  rw [rattn_coe R]
  exact (pay5_apply _ _ h i).trans (attn_coe (row_at R b) h i)

/-- The second carried buffer holds the pooled keys. -/
theorem bufB_coe (b : Fin 32) (h : Fin 8) (j : Fin 512) :
    bufB m c (ix3 b h j) = ((∑ i : Fin 8192, weight (logits R b h) i * R.k (ix3 b i j) : ℝ) : EReal) :=
  (pay6_apply _ _ h j).trans (keys_coe (row_at R b) h j)

/-- The kernel's second result, element by element. -/
theorem out_at (b : Fin 32) (n : Fin 512) :
    outLast m c ptEnd (ix2 b n) = ((∑ d : Fin 512, rpooled (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b d
      * (m ((c : Thread nD τ).loc main_arg9) : Vec Ideal S512x512 .f32) (ix2 n d)) + (m ((c : Thread nD τ).loc main_arg10) : Vec Ideal S512 .f32) (ix1 n) : EReal) := by
  unfold outLast
  rw [operand_eq, iblk_3, iblk_4]
  refine (lastOut_apply _ _ _ _ _ _ (part_Wv _ _ _ _ _) (part_Wo _ _ _ _ _) b n).trans ?_
  refine congrArg (fun y : EReal => y + (m ((c : Thread nD τ).loc main_arg10) : Vec Ideal S512 .f32) (ix1 n)) (Finset.sum_congr rfl fun d _ => ?_)
  rw [pooled_meet R _ _ b d fun h j => bufB_coe R b h j]

end Cert.Meet

end
-- ==== Proof.Value.Finite.lean ====
/- What the precondition gives: the mask lets everything through, and seven of the arguments hold reals. -/
module

public import proofs.«01_k».proof.Proof.Value.Words
public import proofs.«01_k».proof.Pre_finite_unmasked
public import proofs.«01_k».proof.Proof.Gen.Pre_finite_unmasked

@[expose] public section

set_option maxRecDepth 16384

noncomputable section

namespace Cert.Pre_finite_unmasked.Hand

open Cert.Pre_finite_unmasked Cert.Pre_finite_unmasked.Gen
open Cert.KernelIdeal.Hand (word_top)
open Idealize.ShloMosaic Idealize.ShloMosaic.TcCoe Idealize.ShloMosaic.ValueIdx
open scoped BigOperators

/-- A value whose absolute value compares below plus infinity is a real. -/
theorem real_of_lt (x : Ideal .f32) (h : FloatOps.cmpf (φ := .f32) .olt (FloatOps.hostAbsf x) (FloatOps.ofBits .f32 0x7F800000#32 : Ideal .f32) = 1#1) :
    ∃ q : ℝ, x = (q : EReal) := by
  rw [word_top] at h
  have h' : max (x : EReal) (-x) < ⊤ := by
    by_contra hn
    have : FloatOps.cmpf (φ := .f32) .olt (FloatOps.hostAbsf x) (⊤ : EReal) = BitVec.ofBool (decide (max (x : EReal) (-x) < ⊤)) := rfl
    rw [this, decide_eq_false hn] at h
    exact absurd h (by decide)
  induction x using EReal.rec with
  | bot => exact absurd h' (by simp)
  | top => exact absurd h' (by simp)
  | coe q => exact ⟨q, rfl⟩

/-- An array whose absolute values all compare below plus infinity holds reals. -/
theorem reals_of_lt {s : Shape} (x : FVec Ideal s .f32) (hb : S_.BroadcastsInDim s (![] : Fin 0 → Fin s.rank))
    (h : cmpf .olt (Host.absf x) (broadcastInDim s ![] hb (constant S_ .f32 0x7F800000#32)) = fun _ => 1#1) :
    ∃ q : s.Idx → ℝ, ∀ i, x i = (q i : EReal) := by
  have : ∀ i, ∃ q : ℝ, x i = (q : EReal) := fun i => real_of_lt (x i) (congrFun h i)
  choose q hq using this
  exact ⟨q, hq⟩

end Cert.Pre_finite_unmasked.Hand

end
-- ==== Proof.Value.Algebraic.lean ====
/- The value claim: from memories that agree on the arguments, with an open mask and real inputs, the kernel and the reference end with
   equal results. -/
module

public import proofs.«01_k».proof.Defs
public import proofs.«01_k».proof.Proof.Value.Results
public import proofs.«01_k».proof.Proof.Value.Finite

@[expose] public section

set_option maxRecDepth 16384

noncomputable section

namespace Cert.Meet

open Cert.ReferenceIdeal.Hand
open Idealize.SL.Sem
open Idealize.ShloMosaic Idealize.ShloMosaic.TcCoe Idealize.ShloMosaic.ValueIdx
open scoped BigOperators

variable (m : (ℓ : Loc KernelIdeal.nD KernelIdeal.τ KernelIdeal.sig) → Buf (Elt Ideal) ℓ) (c : Dev KernelIdeal.nD)

/-- The precondition opens the mask. -/
theorem open_mask (h : Pre_KernelIdeal_finite_unmasked m) (b : Fin 32) (i : Fin 8192) : ((m ((c : Thread KernelIdeal.nD KernelIdeal.τ).loc KernelIdeal.main_arg2)) : Vec Ideal KernelIdeal.S32x8192 .i1) (ix2 b i) = 1#1 :=
  congrFun (h c).1 (ix2 b i)

/-- The precondition gives the reals the arguments hold. -/
theorem reals_of_pre (h : Pre_KernelIdeal_finite_unmasked m) : Nonempty (Reals (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7))) := by
  obtain ⟨_, h0, h1, h3, h4, h5, h6, h7⟩ := h c
  obtain ⟨q0, e0⟩ := Cert.Pre_finite_unmasked.Hand.reals_of_lt (s := KernelIdeal.S32x512) (m ((c : Thread KernelIdeal.nD KernelIdeal.τ).loc KernelIdeal.main_arg0)) Cert.Pre_finite_unmasked.Facts.bcast_S_S32x512 h0
  obtain ⟨q1, e1⟩ := Cert.Pre_finite_unmasked.Hand.reals_of_lt (s := KernelIdeal.S32x8192x512) (m ((c : Thread KernelIdeal.nD KernelIdeal.τ).loc KernelIdeal.main_arg1)) Cert.Pre_finite_unmasked.Facts.bcast_S_S32x8192x512 h1
  obtain ⟨q3, e3⟩ := Cert.Pre_finite_unmasked.Hand.reals_of_lt (s := KernelIdeal.S512x512) (m ((c : Thread KernelIdeal.nD KernelIdeal.τ).loc KernelIdeal.main_arg3)) Cert.Pre_finite_unmasked.Facts.bcast_S_S512x512 h3
  obtain ⟨q4, e4⟩ := Cert.Pre_finite_unmasked.Hand.reals_of_lt (s := KernelIdeal.S512) (m ((c : Thread KernelIdeal.nD KernelIdeal.τ).loc KernelIdeal.main_arg4)) Cert.Pre_finite_unmasked.Facts.bcast_S_S512 h4
  obtain ⟨q5, e5⟩ := Cert.Pre_finite_unmasked.Hand.reals_of_lt (s := KernelIdeal.S512x512) (m ((c : Thread KernelIdeal.nD KernelIdeal.τ).loc KernelIdeal.main_arg5)) Cert.Pre_finite_unmasked.Facts.bcast_S_S512x512 h5
  obtain ⟨q6, e6⟩ := Cert.Pre_finite_unmasked.Hand.reals_of_lt (s := KernelIdeal.S512) (m ((c : Thread KernelIdeal.nD KernelIdeal.τ).loc KernelIdeal.main_arg6)) Cert.Pre_finite_unmasked.Facts.bcast_S_S512 h6
  obtain ⟨q7, e7⟩ := Cert.Pre_finite_unmasked.Hand.reals_of_lt (s := KernelIdeal.S512x512) (m ((c : Thread KernelIdeal.nD KernelIdeal.τ).loc KernelIdeal.main_arg7)) Cert.Pre_finite_unmasked.Facts.bcast_S_S512x512 h7
  exact ⟨⟨q0, q1, q3, q4, q5, q6, q7, e0, e1, e3, e4, e5, e6, e7⟩⟩

/-- The reference's attention weights are the kernel's. -/
theorem attn_eq (h : Pre_KernelIdeal_finite_unmasked m) :
    ReferenceIdeal.Read.val_main_v33 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) = KernelIdeal.Hand.attnArr m c := by
  obtain ⟨R⟩ := reals_of_pre m c h
  funext y
  rw [eq_ix3 y]
  exact (v33_at _ _ _ _ _ _ _ (open_mask m c h) _ _ _).trans (attn_at R _ _ _).symm

/-- The reference's pooled and projected result is the kernel's. -/
theorem out_eq (h : Pre_KernelIdeal_finite_unmasked m) :
    ReferenceIdeal.Read.val_main_v40 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8)) (m ((c : Thread KernelIdeal.nD KernelIdeal.τ).loc KernelIdeal.main_arg9)) (m ((c : Thread KernelIdeal.nD KernelIdeal.τ).loc KernelIdeal.main_arg10)) = KernelIdeal.Hand.outLast m c KernelIdeal.Hand.ptEnd := by
  obtain ⟨R⟩ := reals_of_pre m c h
  funext y
  rw [eq_ix2 y]
  exact (v40_at _ _ _ _ _ _ _ _ _ _ _ (open_mask m c h) _ _).trans (out_at R _ _).symm

/-- The kernel and the reference end with equal results and unchanged arguments. -/
theorem algebraic : algebraic_KernelIdeal_ReferenceIdeal_pre_finite_unmasked := by
  intro m g m' g' hpre hargs
  refine ⟨fun c => KernelIdeal.Hand.outLast m c KernelIdeal.Hand.ptEnd, fun c => KernelIdeal.Hand.attnArr m c, KernelIdeal.Hand.run_all m g, ?_⟩
  refine (θ_run _ _ _).mono ?_ (ReferenceIdeal.Value.run m' g')
  intro r hr c
  obtain ⟨h40, h33, hrest⟩ := hr c
  obtain ⟨a0, a1, a2, a3, a4, a5, a6, a7, a8, a9, a10⟩ := hargs c
  refine ⟨?_, ?_, hrest⟩
  · refine h40.trans ((ReferenceIdeal.Read.val_main_v40_eq m' c).trans ?_)
    rw [a0, a1, a2, a3, a4, a5, a6, a7, a8, a9, a10]
    exact out_eq m c hpre
  · refine h33.trans ((ReferenceIdeal.Read.val_main_v33_eq m' c).trans ?_)
    rw [a0, a1, a2, a3, a4, a5, a6]
    exact attn_eq m c hpre

end Cert.Meet

end
-- ==== Proof.lean ====
/- The proof of the claims about the attention-pooling kernel: both programs run to the end, leave their arguments and every semaphore as
   they were, the named scale stands for its word, and the kernel's results are the reference's over the extended reals. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_unmasked
public import proofs.«01_k».proof.Proof.Run.Words
public import proofs.«01_k».proof.Proof.Value.Algebraic
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end, its arguments and every semaphore as they were. -/
theorem reference_frame : Cert.quiescent_ReferenceIdeal := fun m g _ =>
  (θ_run _ _ _).mono (fun r hr => ⟨fun c => (hr c).2.2, sem_eq_zero_of_no_sems (by decide) r.2⟩) (Cert.ReferenceIdeal.Value.run m g)

/-- The claims. -/
theorem claim : Cert.Claim := ⟨Cert.Kernel.Gen.facts, Cert.KernelIdeal.Gen.facts, Cert.ReferenceIdeal.Gen.facts, Cert.Pre_finite_unmasked.Gen.facts,
  Cert.Kernel.Hand.frame_all,
  fun m g _ => Cert.KernelIdeal.Hand.frame_all m g,
  fun m g _ => Cert.KernelIdeal.Hand.frame_all m g,
  reference_frame,
  fun m g _ => reference_frame m g trivial,
  IdealRules.named_const.statement _ "s" .f32 0x3E38AA3B#32 _ rfl,
  Cert.Meet.algebraic⟩

end Cert.Proof

end
